-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S16384x1 : Shape := ⟨2, ![16384, 1]⟩
abbrev S512x1024 : Shape := ⟨2, ![512, 1024]⟩
abbrev S512x1 : Shape := ⟨2, ![512, 1]⟩
abbrev S512 : Shape := ⟨1, ![512]⟩
abbrev S16384x2 : Shape := ⟨2, ![16384, 2]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1, .f32⟩
  | .hbm, ⟨2, _⟩ => ⟨S16384x1, .f32⟩
  | .hbm, ⟨3, _⟩ => ⟨S16384x2, .f32⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x1024 : Shape := ⟨2, ![16384, 1024]⟩
abbrev S_ : Shape := ⟨0, ![]⟩
abbrev S1 : Shape := ⟨1, ![1]⟩
abbrev S2 : Shape := ⟨1, ![2]⟩
abbrev S1x1 : Shape := ⟨2, ![1, 1]⟩
abbrev S16384 : Shape := ⟨1, ![16384]⟩
abbrev S16384x1 : Shape := ⟨2, ![16384, 1]⟩
abbrev S16384x2 : Shape := ⟨2, ![16384, 2]⟩

abbrev nBuf : Space → Nat
  | .hbm => 296
  | .vmem => 0
  | .smem => 0
  | _ => 0

abbrev hbmTy0_0 (i : Nat) : BufTy := match i % 128 with
  | 0 => ⟨S16384x1024, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S16384x1024, .i64⟩
  | 21 => ⟨S16384x1024, .i64⟩
  | 22 => ⟨S_, .i64⟩
  | 23 => ⟨S16384x1024, .i64⟩
  | 24 => ⟨S16384x1024, .i64⟩
  | 25 => ⟨S_, .i64⟩
  | 26 => ⟨S16384x1024, .i64⟩
  | 27 => ⟨S16384x1024, .i64⟩
  | 28 => ⟨S16384x1024, .i64⟩
  | 29 => ⟨S_, .i64⟩
  | 30 => ⟨S16384x1024, .i64⟩
  | 31 => ⟨S16384x1024, .i64⟩
  | 32 => ⟨S16384x1024, .i32⟩
  | 33 => ⟨S16384x1024, .i32⟩
  | 34 => ⟨S_, .i32⟩
  | 35 => ⟨S_, .i32⟩
  | 36 => ⟨S_, .i32⟩
  | 37 => ⟨S16384x1024, .i32⟩
  | 38 => ⟨S16384x1024, .i32⟩
  | 39 => ⟨S16384x1024, .i32⟩
  | 40 => ⟨S16384x1024, .i32⟩
  | 41 => ⟨S16384x1024, .i32⟩
  | 42 => ⟨S_, .i32⟩
  | 43 => ⟨S16384x1024, .i32⟩
  | 44 => ⟨S16384x1024, .i32⟩
  | 45 => ⟨S_, .i32⟩
  | 46 => ⟨S16384x1024, .i32⟩
  | 47 => ⟨S16384x1024, .i32⟩
  | 48 => ⟨S16384x1024, .i32⟩
  | 49 => ⟨S16384x1024, .i32⟩
  | 50 => ⟨S16384x1024, .i32⟩
  | 51 => ⟨S_, .i32⟩
  | 52 => ⟨S16384x1024, .i32⟩
  | 53 => ⟨S16384x1024, .i32⟩
  | 54 => ⟨S_, .i32⟩
  | 55 => ⟨S16384x1024, .i32⟩
  | 56 => ⟨S16384x1024, .i32⟩
  | 57 => ⟨S16384x1024, .i32⟩
  | 58 => ⟨S16384x1024, .i32⟩
  | 59 => ⟨S16384x1024, .i32⟩
  | 60 => ⟨S_, .i32⟩
  | 61 => ⟨S16384x1024, .i32⟩
  | 62 => ⟨S16384x1024, .i32⟩
  | 63 => ⟨S_, .i32⟩
  | 64 => ⟨S16384x1024, .i32⟩
  | 65 => ⟨S16384x1024, .i32⟩
  | 66 => ⟨S16384x1024, .i32⟩
  | 67 => ⟨S16384x1024, .i32⟩
  | 68 => ⟨S16384x1024, .i32⟩
  | 69 => ⟨S_, .i32⟩
  | 70 => ⟨S16384x1024, .i32⟩
  | 71 => ⟨S16384x1024, .i32⟩
  | 72 => ⟨S_, .i32⟩
  | 73 => ⟨S16384x1024, .i32⟩
  | 74 => ⟨S16384x1024, .i32⟩
  | 75 => ⟨S16384x1024, .i32⟩
  | 76 => ⟨S16384x1024, .i32⟩
  | 77 => ⟨S16384x1024, .i32⟩
  | 78 => ⟨S16384x1024, .i32⟩
  | 79 => ⟨S16384x1024, .i32⟩
  | 80 => ⟨S16384x1024, .i32⟩
  | 81 => ⟨S_, .i32⟩
  | 82 => ⟨S16384x1024, .i32⟩
  | 83 => ⟨S16384x1024, .i32⟩
  | 84 => ⟨S16384x1024, .i32⟩
  | 85 => ⟨S_, .i32⟩
  | 86 => ⟨S16384x1024, .i32⟩
  | 87 => ⟨S16384x1024, .i32⟩
  | 88 => ⟨S_, .i32⟩
  | 89 => ⟨S16384x1024, .i32⟩
  | 90 => ⟨S16384x1024, .i32⟩
  | 91 => ⟨S16384x1024, .i32⟩
  | 92 => ⟨S16384x1024, .i32⟩
  | 93 => ⟨S16384x1024, .i32⟩
  | 94 => ⟨S_, .i32⟩
  | 95 => ⟨S16384x1024, .i32⟩
  | 96 => ⟨S16384x1024, .i32⟩
  | 97 => ⟨S_, .i32⟩
  | 98 => ⟨S16384x1024, .i32⟩
  | 99 => ⟨S16384x1024, .i32⟩
  | 100 => ⟨S16384x1024, .i32⟩
  | 101 => ⟨S16384x1024, .i32⟩
  | 102 => ⟨S16384x1024, .i32⟩
  | 103 => ⟨S_, .i32⟩
  | 104 => ⟨S16384x1024, .i32⟩
  | 105 => ⟨S16384x1024, .i32⟩
  | 106 => ⟨S_, .i32⟩
  | 107 => ⟨S16384x1024, .i32⟩
  | 108 => ⟨S16384x1024, .i32⟩
  | 109 => ⟨S16384x1024, .i32⟩
  | 110 => ⟨S16384x1024, .i32⟩
  | 111 => ⟨S16384x1024, .i32⟩
  | 112 => ⟨S_, .i32⟩
  | 113 => ⟨S16384x1024, .i32⟩
  | 114 => ⟨S16384x1024, .i32⟩
  | 115 => ⟨S_, .i32⟩
  | 116 => ⟨S16384x1024, .i32⟩
  | 117 => ⟨S16384x1024, .i32⟩
  | 118 => ⟨S16384x1024, .i32⟩
  | 119 => ⟨S16384x1024, .i32⟩
  | 120 => ⟨S16384x1024, .i32⟩
  | 121 => ⟨S16384x1024, .i32⟩
  | 122 => ⟨S16384x1024, .i32⟩
  | 123 => ⟨S16384x1024, .i32⟩
  | 124 => ⟨S_, .i32⟩
  | 125 => ⟨S16384x1024, .i32⟩
  | 126 => ⟨S16384x1024, .i32⟩
  | 127 => ⟨S16384x1024, .i32⟩
  | _ => ⟨S16384x1024, .f32⟩

abbrev hbmTy0_1 (i : Nat) : BufTy := match i % 128 with
  | 0 => ⟨S_, .i32⟩
  | 1 => ⟨S16384x1024, .i32⟩
  | 2 => ⟨S16384x1024, .i32⟩
  | 3 => ⟨S_, .i32⟩
  | 4 => ⟨S16384x1024, .i32⟩
  | 5 => ⟨S16384x1024, .i32⟩
  | 6 => ⟨S16384x1024, .i32⟩
  | 7 => ⟨S16384x1024, .i32⟩
  | 8 => ⟨S16384x1024, .i32⟩
  | 9 => ⟨S_, .i32⟩
  | 10 => ⟨S16384x1024, .i32⟩
  | 11 => ⟨S16384x1024, .i32⟩
  | 12 => ⟨S_, .i32⟩
  | 13 => ⟨S16384x1024, .i32⟩
  | 14 => ⟨S16384x1024, .i32⟩
  | 15 => ⟨S16384x1024, .i32⟩
  | 16 => ⟨S16384x1024, .i32⟩
  | 17 => ⟨S16384x1024, .i32⟩
  | 18 => ⟨S_, .i32⟩
  | 19 => ⟨S16384x1024, .i32⟩
  | 20 => ⟨S16384x1024, .i32⟩
  | 21 => ⟨S_, .i32⟩
  | 22 => ⟨S16384x1024, .i32⟩
  | 23 => ⟨S16384x1024, .i32⟩
  | 24 => ⟨S16384x1024, .i32⟩
  | 25 => ⟨S16384x1024, .i32⟩
  | 26 => ⟨S16384x1024, .i32⟩
  | 27 => ⟨S_, .i32⟩
  | 28 => ⟨S16384x1024, .i32⟩
  | 29 => ⟨S16384x1024, .i32⟩
  | 30 => ⟨S_, .i32⟩
  | 31 => ⟨S16384x1024, .i32⟩
  | 32 => ⟨S16384x1024, .i32⟩
  | 33 => ⟨S16384x1024, .i32⟩
  | 34 => ⟨S16384x1024, .i32⟩
  | 35 => ⟨S16384x1024, .i32⟩
  | 36 => ⟨S16384x1024, .i32⟩
  | 37 => ⟨S16384x1024, .i32⟩
  | 38 => ⟨S16384x1024, .i32⟩
  | 39 => ⟨S_, .i32⟩
  | 40 => ⟨S16384x1024, .i32⟩
  | 41 => ⟨S16384x1024, .i32⟩
  | 42 => ⟨S16384x1024, .i32⟩
  | 43 => ⟨S_, .i32⟩
  | 44 => ⟨S16384x1024, .i32⟩
  | 45 => ⟨S16384x1024, .i32⟩
  | 46 => ⟨S_, .i32⟩
  | 47 => ⟨S16384x1024, .i32⟩
  | 48 => ⟨S16384x1024, .i32⟩
  | 49 => ⟨S16384x1024, .i32⟩
  | 50 => ⟨S16384x1024, .i32⟩
  | 51 => ⟨S16384x1024, .i32⟩
  | 52 => ⟨S_, .i32⟩
  | 53 => ⟨S16384x1024, .i32⟩
  | 54 => ⟨S16384x1024, .i32⟩
  | 55 => ⟨S_, .i32⟩
  | 56 => ⟨S16384x1024, .i32⟩
  | 57 => ⟨S16384x1024, .i32⟩
  | 58 => ⟨S16384x1024, .i32⟩
  | 59 => ⟨S16384x1024, .i32⟩
  | 60 => ⟨S16384x1024, .i32⟩
  | 61 => ⟨S_, .i32⟩
  | 62 => ⟨S16384x1024, .i32⟩
  | 63 => ⟨S16384x1024, .i32⟩
  | 64 => ⟨S_, .i32⟩
  | 65 => ⟨S16384x1024, .i32⟩
  | 66 => ⟨S16384x1024, .i32⟩
  | 67 => ⟨S16384x1024, .i32⟩
  | 68 => ⟨S16384x1024, .i32⟩
  | 69 => ⟨S16384x1024, .i32⟩
  | 70 => ⟨S_, .i32⟩
  | 71 => ⟨S16384x1024, .i32⟩
  | 72 => ⟨S16384x1024, .i32⟩
  | 73 => ⟨S_, .i32⟩
  | 74 => ⟨S16384x1024, .i32⟩
  | 75 => ⟨S16384x1024, .i32⟩
  | 76 => ⟨S16384x1024, .i32⟩
  | 77 => ⟨S16384x1024, .i32⟩
  | 78 => ⟨S16384x1024, .i32⟩
  | 79 => ⟨S16384x1024, .i32⟩
  | 80 => ⟨S16384x1024, .i32⟩
  | 81 => ⟨S16384x1024, .i32⟩
  | 82 => ⟨S_, .i32⟩
  | 83 => ⟨S16384x1024, .i32⟩
  | 84 => ⟨S16384x1024, .i32⟩
  | 85 => ⟨S16384x1024, .i32⟩
  | 86 => ⟨S_, .i32⟩
  | 87 => ⟨S16384x1024, .i32⟩
  | 88 => ⟨S16384x1024, .i32⟩
  | 89 => ⟨S_, .i32⟩
  | 90 => ⟨S16384x1024, .i32⟩
  | 91 => ⟨S16384x1024, .i32⟩
  | 92 => ⟨S16384x1024, .i32⟩
  | 93 => ⟨S16384x1024, .i32⟩
  | 94 => ⟨S16384x1024, .i32⟩
  | 95 => ⟨S_, .i32⟩
  | 96 => ⟨S16384x1024, .i32⟩
  | 97 => ⟨S16384x1024, .i32⟩
  | 98 => ⟨S_, .i32⟩
  | 99 => ⟨S16384x1024, .i32⟩
  | 100 => ⟨S16384x1024, .i32⟩
  | 101 => ⟨S16384x1024, .i32⟩
  | 102 => ⟨S16384x1024, .i32⟩
  | 103 => ⟨S16384x1024, .i32⟩
  | 104 => ⟨S_, .i32⟩
  | 105 => ⟨S16384x1024, .i32⟩
  | 106 => ⟨S16384x1024, .i32⟩
  | 107 => ⟨S_, .i32⟩
  | 108 => ⟨S16384x1024, .i32⟩
  | 109 => ⟨S16384x1024, .i32⟩
  | 110 => ⟨S16384x1024, .i32⟩
  | 111 => ⟨S16384x1024, .i32⟩
  | 112 => ⟨S16384x1024, .i32⟩
  | 113 => ⟨S_, .i32⟩
  | 114 => ⟨S16384x1024, .i32⟩
  | 115 => ⟨S16384x1024, .i32⟩
  | 116 => ⟨S_, .i32⟩
  | 117 => ⟨S16384x1024, .i32⟩
  | 118 => ⟨S16384x1024, .i32⟩
  | 119 => ⟨S16384x1024, .i32⟩
  | 120 => ⟨S16384x1024, .i32⟩
  | 121 => ⟨S16384x1024, .i32⟩
  | 122 => ⟨S16384x1024, .i32⟩
  | 123 => ⟨S16384x1024, .i32⟩
  | 124 => ⟨S16384x1024, .i32⟩
  | 125 => ⟨S_, .i32⟩
  | 126 => ⟨S16384x1024, .i32⟩
  | 127 => ⟨S16384x1024, .i32⟩
  | _ => ⟨S16384x1024, .f32⟩

abbrev hbmTy0_2 (i : Nat) : BufTy := match i % 128 with
  | 0 => ⟨S16384x1024, .i32⟩
  | 1 => ⟨S_, .i32⟩
  | 2 => ⟨S16384x1024, .i32⟩
  | 3 => ⟨S16384x1024, .i32⟩
  | 4 => ⟨S_, .i32⟩
  | 5 => ⟨S16384x1024, .i32⟩
  | 6 => ⟨S16384x1024, .i32⟩
  | 7 => ⟨S16384x1024, .f32⟩
  | 8 => ⟨S_, .f32⟩
  | 9 => ⟨S16384x1024, .f32⟩
  | 10 => ⟨S16384x1024, .f32⟩
  | 11 => ⟨S1x1, .f32⟩
  | 12 => ⟨S16384x1024, .f32⟩
  | 13 => ⟨S16384x1024, .f32⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .i32⟩
  | 24 => ⟨S_, .f32⟩
  | 25 => ⟨S_, .i32⟩
  | 26 => ⟨S16384, .f32⟩
  | 27 => ⟨S16384, .i32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x2, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_v8 : Ref sig .tc := ⟨.hbm, 278, rfl⟩
abbrev main_call1_v0 : Ref sig .tc := ⟨.hbm, 279, rfl⟩
abbrev main_call1_cst : Ref sig .tc := ⟨.hbm, 280, rfl⟩
abbrev main_call1_c : Ref sig .tc := ⟨.hbm, 281, rfl⟩
abbrev main_call1_v1_0 : Ref sig .tc := ⟨.hbm, 282, rfl⟩
abbrev main_v9 : Ref sig .tc := ⟨.hbm, 283, rfl⟩
abbrev main_v10 : Ref sig .tc := ⟨.hbm, 284, rfl⟩
abbrev main_v11 : Ref sig .tc := ⟨.hbm, 285, rfl⟩
abbrev main_cst : Ref sig .tc := ⟨.hbm, 286, rfl⟩
abbrev main_v12 : Ref sig .tc := ⟨.hbm, 287, rfl⟩
abbrev main_v13 : Ref sig .tc := ⟨.hbm, 288, rfl⟩
abbrev main_cst_2 : Ref sig .tc := ⟨.hbm, 289, rfl⟩
abbrev main_v14 : Ref sig .tc := ⟨.hbm, 290, rfl⟩
abbrev main_v15 : Ref sig .tc := ⟨.hbm, 291, rfl⟩
abbrev main_cst_3 : Ref sig .tc := ⟨.hbm, 292, rfl⟩
abbrev main_v16 : Ref sig .tc := ⟨.hbm, 293, rfl⟩
abbrev main_v17 : Ref sig .tc := ⟨.hbm, 294, rfl⟩
abbrev main_v18 : Ref sig .tc := ⟨.hbm, 295, rfl⟩

abbrev nD : Nat := 1
abbrev τ : Topo := Topo.v7x

variable {F : FTy → Type} [FloatOps F]
-- ==== Proof.Threefry.lean ====
/-
  The Threefry-2x32 block function on 32-bit words, twenty rounds, stated on its own: what both programs compute at one
  element. A state is a pair of words.
-/
module

public import Idealize.ShloMosaic.PureOps

@[expose] public section

namespace Cert.Proof.Threefry

open Idealize.ShloMosaic

/-- One round with rotation `r`: the first word becomes the sum, the second its rotation left by `r`, xored with the sum. -/
def mix (r : Nat) (p : BitVec 32 × BitVec 32) : BitVec 32 × BitVec 32 :=
  (p.1 + p.2, (p.2 <<< r ||| p.2 >>> (32 - r)) ^^^ (p.1 + p.2))

/-- The first half of a round: the first word becomes the sum. -/
def sum (p : BitVec 32 × BitVec 32) : BitVec 32 × BitVec 32 := (p.1 + p.2, p.2)

/-- The second half of a round: the second word rotated left by `r` and xored with the first. -/
def turn (r : Nat) (p : BitVec 32 × BitVec 32) : BitVec 32 × BitVec 32 := (p.1, (p.2 <<< r ||| p.2 >>> (32 - r)) ^^^ p.1)

theorem turn_sum (r : Nat) (p : BitVec 32 × BitVec 32) : turn r (sum p) = mix r p := rfl

/-- A key injection: `a` added to the first word, `b` and then the counter `n` to the second. -/
def inject (a b n : BitVec 32) (p : BitVec 32 × BitVec 32) : BitVec 32 × BitVec 32 :=
  (p.1 + a, p.2 + b + n)

/-- The key word and the counter may be added up first. -/
theorem inject_eq (a b n : BitVec 32) (p : BitVec 32 × BitVec 32) : inject a b n p = (p.1 + a, p.2 + (b + n)) := by
  rw [inject, BitVec.add_assoc]

/-- The four rounds of the even groups. -/
def evenRounds (p : BitVec 32 × BitVec 32) : BitVec 32 × BitVec 32 := mix 6 (mix 26 (mix 15 (mix 13 p)))

/-- The four rounds of the odd groups. -/
def oddRounds (p : BitVec 32 × BitVec 32) : BitVec 32 × BitVec 32 := mix 24 (mix 16 (mix 29 (mix 17 p)))

/-- The third key word: both words of the key xored with the scheme's constant. -/
def parity (a b : BitVec 32) : BitVec 32 := a ^^^ b ^^^ 466688986#32

/-- Threefry-2x32 with twenty rounds: the key `(a, b)` applied to the counter pair `p`. -/
def threefry (a b : BitVec 32) (p : BitVec 32 × BitVec 32) : BitVec 32 × BitVec 32 :=
  inject (parity a b) a 5#32 <| evenRounds <|
  inject b (parity a b) 4#32 <| oddRounds <|
  inject a b 3#32 <| evenRounds <|
  inject (parity a b) a 2#32 <| oddRounds <|
  inject b (parity a b) 1#32 <| evenRounds (p.1 + a, p.2 + b)

/-- The random word of element number `n`: the counter `(0, n)` under the key `(0, 42)`, the two output words xored. -/
def word (n : Nat) : BitVec 32 :=
  (threefry 0#32 42#32 (0#32, BitVec.ofNat 32 n)).1 ^^^ (threefry 0#32 42#32 (0#32, BitVec.ofNat 32 n)).2

/-- A left shift by a literal amount below 32 is the shift, on every unit. -/
theorem shli_lit (u : ArithUnit) (x : BitVec 32) {k : Nat} (hk : k < 32) : IntOp.shli u x (BitVec.ofNat 32 k) = x <<< k := by
  have h : (BitVec.ofNat 32 k).toNat = k := by rw [BitVec.toNat_ofNat]; omega
  unfold IntOp.shli
  rw [if_pos (by omega), BitVec.shiftLeft_eq', h]

/-- A logical right shift by a literal amount below 32 is the shift, on every unit. -/
theorem shrui_lit (u : ArithUnit) (x : BitVec 32) {k : Nat} (hk : k < 32) : IntOp.shrui u x (BitVec.ofNat 32 k) = x >>> k := by
  have h : (BitVec.ofNat 32 k).toNat = k := by rw [BitVec.toNat_ofNat]; omega
  unfold IntOp.shrui
  rw [if_pos (by omega), BitVec.ushiftRight_eq', h]

end Cert.Proof.Threefry

end
-- ==== Proof.ArgMax.lean ====
/-
  The place of a row's greatest score, computed in two ways.

  The kernel takes the greatest score first and then the least column number at which a score equals it. The reference
  walks along the row with the pair (best score, its column) and replaces the pair when a score is greater, or equal with
  a lesser column. Both give the FIRST column that holds the greatest score: `First` says so, `First.unique` that there
  is one such column, `least_first` and `walk_first` that the two computations find it.
-/
module

public import Idealize.ShloMosaic.PureOps
public import Idealize.ShloMosaic.PureOps.Ideal
public import Idealize.ShloMosaic.PureOps.Ideal.Laws

@[expose] public section

noncomputable section

namespace Cert.Proof.ArgMax
open Idealize.ShloMosaic

variable {ι : Type}

/-- Among the places `D`, with scores `s` and numbers `k`: `m` is the least number of a place with the greatest score. -/
structure First (D : ι → Prop) (s : ι → EReal) (k : ι → ℕ) (m : ℕ) : Prop where
  found : ∃ i, D i ∧ k i = m ∧ ∀ j, D j → s j ≤ s i ∧ (s j = s i → m ≤ k j)

/-- There is at most one first number of the greatest score. -/
theorem First.unique {D : ι → Prop} {s : ι → EReal} {k : ι → ℕ} {m n : ℕ} (hm : First D s k m) (hn : First D s k n) :
    m = n := by
  obtain ⟨i, di, rfl, hi⟩ := hm.found
  obtain ⟨j, dj, rfl, hj⟩ := hn.found
  have e : s i = s j := le_antisymm (hj i di).1 (hi j dj).1
  exact le_antisymm ((hi j dj).2 e.symm) ((hj i di).2 e)

/-- Renaming the places: when each place of `D` is a place of `E` of the same score and number, and the other way round,
    a first number over `D` is one over `E`. -/
theorem First.transfer {κ : Type} {D : ι → Prop} {s : ι → EReal} {k : ι → ℕ} {E : κ → Prop} {t : κ → EReal} {l : κ → ℕ}
    {m : ℕ} (h : First D s k m) (out : ∀ i, D i → ∃ j, E j ∧ t j = s i ∧ l j = k i)
    (back : ∀ j, E j → ∃ i, D i ∧ t j = s i ∧ l j = k i) : First E t l m := by
  obtain ⟨i, di, rfl, hi⟩ := h.found
  obtain ⟨j, ej, hs, hk⟩ := out i di
  refine ⟨⟨j, ej, hk, fun j' ej' => ?_⟩⟩
  obtain ⟨i', di', hs', hk'⟩ := back j' ej'
  rw [hs, hs', hk']
  exact hi i' di'

/-- A number below 1024, written as a 32-bit word and read back as a signed number, is itself. -/
theorem toInt_ofNat {n : ℕ} (h : n < 1024) : (BitVec.ofNat 32 n).toInt = n := by
  rw [BitVec.toInt_eq_toNat_of_lt] <;> simp [BitVec.toNat_ofNat] <;> omega

/-- The signed order of two words that hold numbers below 1024 is the order of the numbers. -/
theorem slt_ofNat {a b : ℕ} (ha : a < 1024) (hb : b < 1024) :
    (BitVec.ofNat 32 a).slt (BitVec.ofNat 32 b) = decide (a < b) := by
  rw [BitVec.slt, toInt_ofNat ha, toInt_ofNat hb]; simp

/-! ### The least word -/

/-- The signed minimum of a family of words and of a start word is one of them, and no greater than any of them. -/
theorem least (D : Finset ι) (g : ι → BitVec 32) (z : BitVec 32) :
    let w := D.fold IKind.minsi.op z g
    (w = z ∨ ∃ i ∈ D, w = g i) ∧ w.toInt ≤ z.toInt ∧ ∀ i ∈ D, w.toInt ≤ (g i).toInt := by
  classical
  induction D using Finset.induction_on with
  | empty => simp
  | @insert a D ha ih =>
    obtain ⟨which, hz, hD⟩ := ih
    simp only [Finset.fold_insert ha]
    set w := D.fold IKind.minsi.op z g
    by_cases c : (g a).toInt < w.toInt
    · have e : IKind.minsi.op (g a) w = g a := by
        simp only [IKind.op, IntOp.minsi, BitVec.slt, c, decide_true, if_true]
      rw [e]
      refine ⟨.inr ⟨a, by simp, rfl⟩, by omega, fun i hi => ?_⟩
      rcases Finset.mem_insert.mp hi with rfl | hi
      · exact le_refl _
      · have := hD i hi; omega
    · have e : IKind.minsi.op (g a) w = w := by
        simp only [IKind.op, IntOp.minsi, BitVec.slt, c, decide_false, Bool.false_eq_true, if_false]
      rw [e]
      refine ⟨?_, hz, fun i hi => ?_⟩
      · rcases which with h | ⟨i, hi, h⟩
        · exact .inl h
        · exact .inr ⟨i, Finset.mem_insert_of_mem hi, h⟩
      · rcases Finset.mem_insert.mp hi with rfl | hi
        · omega
        · exact hD i hi

/-- THE KERNEL'S WAY. The greatest score, then the least of the words that are the column number where the score equals
    it and 1024 elsewhere: that word holds the first number of the greatest score. -/
theorem least_first {D : Finset ι} (hD : D.Nonempty) {s : ι → EReal} {k : ι → ℕ} (hk : ∀ i, k i < 1024) :
    ∃ m, First (· ∈ D) s k m ∧ m < 1024 ∧
      D.fold IKind.minsi.op 2147483647#32
        (fun i => Scalar.select (Ideal.cmp .oeq (s i) (D.fold max ⊥ s)) (BitVec.ofNat 32 (k i)) 1024#32)
        = BitVec.ofNat 32 m := by
  have hsup : D.fold max ⊥ s = D.sup s := rfl
  obtain ⟨i₀, hi₀, e₀⟩ := D.exists_mem_eq_sup hD s
  rw [hsup]
  have hg : ∀ i, Scalar.select (Ideal.cmp .oeq (s i) (D.sup s)) (BitVec.ofNat 32 (k i)) 1024#32
      = if s i = D.sup s then BitVec.ofNat 32 (k i) else 1024#32 := by
    intro i
    by_cases h : s i = D.sup s <;> simp [Scalar.select, Ideal.cmp, h]
  simp only [hg]
  obtain ⟨which, -, low⟩ := least D (fun i => if s i = D.sup s then BitVec.ofNat 32 (k i) else 1024#32) 2147483647#32
  set w := D.fold IKind.minsi.op 2147483647#32 (fun i => if s i = D.sup s then BitVec.ofNat 32 (k i) else 1024#32)
  have small : w.toInt < 1024 := by
    have := low i₀ hi₀
    rw [if_pos e₀.symm, toInt_ofNat (hk i₀)] at this
    have := hk i₀; omega
  rcases which with h | ⟨i, hi, h⟩
  · rw [h] at small; exact absurd small (by decide)
  · by_cases c : s i = D.sup s
    · rw [if_pos c] at h
      refine ⟨k i, ⟨⟨i, hi, rfl, fun j hj => ⟨?_, fun e => ?_⟩⟩⟩, hk i, h⟩
      · rw [c]; exact Finset.le_sup hj
      · have := low j hj
        rw [if_pos (e.trans c), h, toInt_ofNat (hk i), toInt_ofNat (hk j)] at this
        omega
    · rw [if_neg c] at h
      rw [h] at small; exact absurd small (by decide)

/-! ### The walk along the row -/

/-- One step of a walk that keeps the better of two pairs (score, number): the greater score, and between equal scores
    the lesser number. `Better f` says that `f` is that step, on numbers below 1024 written as words. -/
def Better (f : EReal × BitVec 32 → EReal × BitVec 32 → EReal × BitVec 32) : Prop :=
  ∀ v x (m n : ℕ), m < 1024 → n < 1024 →
    f (v, BitVec.ofNat 32 m) (x, BitVec.ofNat 32 n)
      = if x < v ∨ (v = x ∧ m < n) then (v, BitVec.ofNat 32 m) else (x, BitVec.ofNat 32 n)

/-- What the walk holds after the places of `P`: a score and a number, not beaten by any place of `P`, which are one
    place's or still the start pair. -/
structure Holds (P : ι → Prop) (s : ι → EReal) (k : ι → ℕ) (v : EReal) (m : ℕ) : Prop where
  small : m < 1024
  best : ∀ i, P i → s i ≤ v ∧ (s i = v → m ≤ k i)
  origin : (∃ i, P i ∧ v = s i ∧ m = k i) ∨ (v = ⊥ ∧ m = 0)

/-- A walk over a list from what holds over `P` ends with what holds over `P` and the list. -/
theorem walk_holds {f} (hf : Better f) {s : ι → EReal} {k : ι → ℕ} (hk : ∀ i, k i < 1024) (l : List ι) :
    ∀ {P : ι → Prop} {v : EReal} {m : ℕ}, Holds P s k v m →
      ∃ v' m', (l.map fun i => (s i, BitVec.ofNat 32 (k i))).foldl f (v, BitVec.ofNat 32 m) = (v', BitVec.ofNat 32 m') ∧
        Holds (fun i => P i ∨ i ∈ l) s k v' m' := by
  induction l with
  | nil => intro P v m h; exact ⟨v, m, rfl, by simpa using h⟩
  | cons a l ih =>
    intro P v m h
    have step : ∃ v' m', f (v, BitVec.ofNat 32 m) (s a, BitVec.ofNat 32 (k a)) = (v', BitVec.ofNat 32 m') ∧
        Holds (fun i => P i ∨ i = a) s k v' m' := by
      rw [hf v (s a) m (k a) h.small (hk a)]
      split_ifs with c
      · refine ⟨v, m, rfl, h.small, ?_, ?_⟩
        · rintro i (hi | rfl)
          · exact h.best i hi
          · rcases c with c | ⟨e, c⟩
            · exact ⟨c.le, fun e => absurd e c.ne⟩
            · exact ⟨e.ge, fun _ => c.le⟩
        · rcases h.origin with ⟨i, hi, e⟩ | e
          · exact .inl ⟨i, .inl hi, e⟩
          · exact .inr e
      · rw [not_or, not_and, not_lt, not_lt] at c
        refine ⟨s a, k a, rfl, hk a, ?_, .inl ⟨a, .inr rfl, rfl, rfl⟩⟩
        rintro i (hi | rfl)
        · refine ⟨(h.best i hi).1.trans c.1, fun e => ?_⟩
          have e' : v = s a := le_antisymm c.1 (e ▸ (h.best i hi).1)
          exact (c.2 e').trans ((h.best i hi).2 (e.trans e'.symm))
        · exact ⟨le_refl _, fun _ => le_refl _⟩
    obtain ⟨v₁, m₁, e₁, h₁⟩ := step
    obtain ⟨v₂, m₂, e₂, h₂⟩ := ih h₁
    refine ⟨v₂, m₂, by rw [List.map_cons, List.foldl_cons, e₁, e₂], ?_⟩
    convert h₂ using 2
    rw [List.mem_cons, or_assoc]

/-- THE REFERENCE'S WAY. The walk over the places `D` from (`⊥`, 0), some place having the number 0, ends with the first
    number of the greatest score. -/
theorem walk_first {f} (hf : Better f) {s : ι → EReal} {k : ι → ℕ} (hk : ∀ i, k i < 1024) (l : List ι)
    (h0 : ∃ i ∈ l, k i = 0) :
    ∃ m, First (· ∈ l) s k m ∧
      ((l.map fun i => (s i, BitVec.ofNat 32 (k i))).foldl f (⊥, 0#32)).2 = BitVec.ofNat 32 m := by
  obtain ⟨v, m, e, h⟩ := walk_holds hf hk l (P := fun _ => False) (s := s) (v := ⊥) (m := 0)
    ⟨by decide, fun _ => False.elim, .inr ⟨rfl, rfl⟩⟩
  refine ⟨m, ⟨?_⟩, congrArg Prod.snd e⟩
  rcases h.origin with ⟨i, hi | hi, rfl, rfl⟩ | ⟨rfl, rfl⟩
  · exact hi.elim
  · exact ⟨i, hi, rfl, fun j hj => h.best j (.inr hj)⟩
  · obtain ⟨i, hi, e0⟩ := h0
    have hs : ∀ j ∈ l, s j = ⊥ := fun j hj => le_bot_iff.mp (h.best j (.inr hj)).1
    exact ⟨i, hi, e0, fun j hj => ⟨by rw [hs i hi, hs j hj], fun _ => Nat.zero_le _⟩⟩

end Cert.Proof.ArgMax

end
-- ==== Proof.Sample.lean ====
/-
  What both programs compute, stated on its own over the extended reals: each element's uniform sample from its random
  word, its Gumbel noise, a row's scores, and the column of a row's greatest score.
-/
module

public import proofs.«01_k».proof.Proof.Threefry
public import proofs.«01_k».proof.Proof.ArgMax
public import Idealize.ShloMosaic.Lib.Pointwise

@[expose] public section

noncomputable section

namespace Cert.Proof.Sample

open Idealize.ShloMosaic Cert.Proof.Threefry Cert.Proof.ArgMax

/-- The word's upper bits under the exponent of one: a pattern of a float in `[1, 2)`. -/
def mantissa (w : BitVec 32) : BitVec 32 := w >>> 9 ||| 1065353216#32

/-- The sample in `[0, 1)` that a word makes. -/
def unit (w : BitVec 32) : EReal := Ideal.ofBits .f32 (mantissa w) - Ideal.ofBits .f32 0x3F800000#32

/-- The lower end of the range, the least positive normal number. -/
def tiny : EReal := Ideal.ofBits .f32 0x00800000#32

/-- The width of the range. -/
def width : EReal := Ideal.ofBits .f32 0x3F800000#32 - tiny

/-- The Gumbel noise of a sample in `[0, 1)`: `-log (-log u)`, `u` being the sample moved into `[tiny, 1)`. -/
def gumbel (f : EReal) : EReal := -Ideal.log (-Ideal.log (max tiny (f * width + tiny)))

/-- The logits by row and column number (zero outside the array). -/
def logits (x : (⟨2, ![16384, 1024]⟩ : Shape).Idx → EReal) (r c : ℕ) : EReal :=
  if h : r < 16384 ∧ c < 1024 then x (ix2 ⟨r, h.1⟩ ⟨c, h.2⟩) else 0

/-- At numbers inside the array they are the array's. -/
theorem logits_ix2 (x : (⟨2, ![16384, 1024]⟩ : Shape).Idx → EReal) (r : Fin 16384) (c : Fin 1024) :
    logits x r c = x (ix2 r c) := dif_pos ⟨r.2, c.2⟩

/-- The score at row `r`, column `c` of logits `x`: the logit plus the noise of element number `r * 1024 + c`. -/
def score (x : ℕ → ℕ → EReal) (r : ℕ) (c : Fin 1024) : EReal := x r c + gumbel (unit (word (r * 1024 + c)))

open Classical in
/-- The first column of a row of scores that holds the greatest. -/
def pick (s : Fin 1024 → EReal) : ℕ := if h : ∃ m, First (· ∈ Finset.univ) s Fin.val m then h.choose else 0

/-- It is whatever number is shown to be the first. -/
theorem pick_eq {s : Fin 1024 → EReal} {m : ℕ} (h : First (· ∈ Finset.univ) s Fin.val m) : pick s = m := by
  have e : ∃ m, First (· ∈ Finset.univ) s Fin.val m := ⟨m, h⟩
  rw [pick, dif_pos e]
  exact e.choose_spec.unique h

/-- The picked column of row `r`, as a number. -/
def column (s : Fin 1024 → EReal) : EReal := (((BitVec.ofNat 32 (pick s)).toInt : ℝ) : EReal)

/-- The value that the picked column stands for. -/
def level (s : Fin 1024 → EReal) : EReal :=
  Ideal.ofBits .f32 0xC04A62C2#32 + Ideal.ofBits .f32 0x3BCA9567#32 * column s

end Cert.Proof.Sample

end
-- ==== Proof.KernelWord.lean ====
/-
  The kernel's random bits at one element: its vector arithmetic on words, read at an index of the block, is the
  Threefry-2x32 function of the element's number. The kernel's text is cut into four parts; a lemma each says what a
  part makes of the pair of words it is given, and `bits` puts them together.
-/
module

public import proofs.«01_k».proof.Proof.Sample
public import proofs.«01_k».proof.Proof.Gen.KernelIdeal.Frame
public import Idealize.ShloMosaic.Lib.Pointwise
public import Idealize.ShloMosaic.PureOps.Ideal

@[expose] public section

noncomputable section

namespace Cert.Proof.KernelWord

open Idealize.ShloMosaic Cert.KernelIdeal Cert.KernelIdeal.Gen Cert.Proof.Threefry Cert.Proof.Sample

variable {u : ArithUnit} (x : BitVec 32)

/-! The shifts by the literal amounts the rounds use. -/

theorem shl6 : IntOp.shli u x 6#32 = x <<< 6 := shli_lit u x (by decide)
theorem shl13 : IntOp.shli u x 13#32 = x <<< 13 := shli_lit u x (by decide)
theorem shl15 : IntOp.shli u x 15#32 = x <<< 15 := shli_lit u x (by decide)
theorem shl16 : IntOp.shli u x 16#32 = x <<< 16 := shli_lit u x (by decide)
theorem shl17 : IntOp.shli u x 17#32 = x <<< 17 := shli_lit u x (by decide)
theorem shl24 : IntOp.shli u x 24#32 = x <<< 24 := shli_lit u x (by decide)
theorem shl26 : IntOp.shli u x 26#32 = x <<< 26 := shli_lit u x (by decide)
theorem shl29 : IntOp.shli u x 29#32 = x <<< 29 := shli_lit u x (by decide)
theorem shr3 : IntOp.shrui u x 3#32 = x >>> 3 := shrui_lit u x (by decide)
theorem shr6 : IntOp.shrui u x 6#32 = x >>> 6 := shrui_lit u x (by decide)
theorem shr8 : IntOp.shrui u x 8#32 = x >>> 8 := shrui_lit u x (by decide)
theorem shr9 : IntOp.shrui u x 9#32 = x >>> 9 := shrui_lit u x (by decide)
theorem shr15 : IntOp.shrui u x 15#32 = x >>> 15 := shrui_lit u x (by decide)
theorem shr16 : IntOp.shrui u x 16#32 = x >>> 16 := shrui_lit u x (by decide)
theorem shr17 : IntOp.shrui u x 17#32 = x >>> 17 := shrui_lit u x (by decide)
theorem shr19 : IntOp.shrui u x 19#32 = x >>> 19 := shrui_lit u x (by decide)
theorem shr26 : IntOp.shrui u x 26#32 = x >>> 26 := shrui_lit u x (by decide)

variable (i : grid0.Coords) (e : S512x1024.Idx)

/-- The first part: four rounds, an injection and half of the next round, from the counter `(0, n)` plus the key. -/
theorem part1 : (k0_pay12 i e, k0_pay11 i e)
    = sum (inject 42#32 466689008#32 1#32 (evenRounds (0#32, k0_pay3 i e))) := by
  simp only [k0_pay12, k0_pay11, k0_pay10, k0_pay9, k0_pay8, k0_pay7, k0_pay6, k0_pay5, k0_pay4]
  simp only [addi, xori, ori, shli, shrui, broadcast, IntOp.addi, IntOp.xori, IntOp.ori, shl6, shl13, shl15, shl26,
    shr6, shr17, shr19, shr26]
  simp only [sum, inject_eq, evenRounds, mix, BitVec.reduceAdd, BitVec.add_zero, BitVec.zero_add]

variable (y z : IVec S512x1024 32)

/-- The second part: the rest of an odd group, an injection, two rounds and half a round. -/
theorem part2 : (k0_pay24 y z 17#32 e, k0_pay23 y z 17#32 e)
    = sum (mix 15 (mix 13 (inject 466689008#32 0#32 2#32 (mix 24 (mix 16 (mix 29 (turn 17 (z e, y e)))))))) := by
  simp only [k0_pay13, k0_pay14, k0_pay15, k0_pay16, k0_pay17, k0_pay18, k0_pay19, k0_pay20, k0_pay21, k0_pay22,
    k0_pay23, k0_pay24]
  simp only [addi, xori, ori, shli, shrui, broadcast, IntOp.addi, IntOp.xori, IntOp.ori, shl13, shl15, shl16, shl17, shl24,
    shl29, shr3, shr8, shr15, shr16, shr17, shr19]
  simp only [sum, turn, inject_eq, mix, BitVec.reduceAdd, BitVec.add_zero]

/-- The third part: the rest of an even group, an injection and an odd group. -/
theorem part3 : (k0_pay34 y z 26#32 e, k0_pay35 y z 26#32 e)
    = oddRounds (inject 0#32 42#32 3#32 (mix 6 (turn 26 (z e, y e)))) := by
  simp only [k0_pay25, k0_pay26, k0_pay27, k0_pay28, k0_pay29, k0_pay30, k0_pay31, k0_pay32, k0_pay33, k0_pay34, k0_pay35]
  simp only [addi, xori, ori, shli, shrui, broadcast, IntOp.addi, IntOp.xori, IntOp.ori, shl6, shl16, shl17, shl24, shl26,
    shl29, shr3, shr6, shr8, shr15, shr16, shr26]
  simp only [turn, inject_eq, oddRounds, mix, BitVec.reduceAdd, BitVec.add_zero, BitVec.zero_add]

/-- The last part: an injection, the last four rounds and the last injection, the two words xored, made a float in
    `[1, 2)` and reduced by one. -/
theorem part4 : k0_pay37 (F := Ideal) y z k0_pay36 e
    = FloatOps.subf (FloatOps.ofBits .f32 (mantissa
        ((inject 466689008#32 0#32 5#32 (evenRounds (inject 42#32 466689008#32 4#32 (y e, z e)))).1
          ^^^ (inject 466689008#32 0#32 5#32 (evenRounds (inject 42#32 466689008#32 4#32 (y e, z e)))).2)))
        (FloatOps.ofBits .f32 0x3F800000#32) := by
  simp only [k0_pay37, k0_pay36, subf, bitcastToFloat_apply, Scalar.ofBits]
  simp only [addi, xori, ori, shli, shrui, broadcast, IntOp.addi, IntOp.xori, IntOp.ori, shl6, shl13, shl15, shl26,
    shr6, shr9, shr17, shr19, shr26]
  simp only [mantissa, inject_eq, evenRounds, mix, BitVec.reduceAdd, BitVec.add_zero, BitVec.zero_add]

omit y z in
/-- The element's number as the kernel counts it: 524288 a grid step, 1024 a row of the block, 1 a column; plus the key. -/
theorem counter : k0_pay3 i e = BitVec.ofNat 32 (((i 0).val * 512 + (e 0).val) * 1024 + (e 1).val) + 42#32 := by
  pointwise [k0_pay3]
  simp only [IntOp.addi, IntOp.muli, Scalar.muli]
  congr 1
  apply BitVec.eq_of_toNat_eq
  simp only [BitVec.toNat_add, BitVec.toNat_mul, BitVec.toNat_ofNat]
  omega

omit y z in
/-- The four parts together: at element `e` of grid step `i` the kernel holds the unit sample of the element's number. -/
theorem bits (x0 : Vec Ideal S512x1024 .f32) : k0_pay43 i x0 e
    = unit (word (((i 0).val * 512 + (e 0).val) * 1024 + (e 1).val)) := by
  have h1 := part1 i e
  have h2 := part2 e (k0_pay39 i x0) (k0_pay40 i x0)
  have h3 := part3 e (k0_pay41 i x0) (k0_pay42 i x0)
  rw [show (k0_pay40 i x0 e, k0_pay39 i x0 e) = _ from h1, turn_sum] at h2
  rw [show (k0_pay42 i x0 e, k0_pay41 i x0 e) = _ from h2, turn_sum] at h3
  rw [k0_pay43, part4, h3, counter]
  rfl

end Cert.Proof.KernelWord

end
-- ==== Proof.KernelRow.lean ====
/-
  The kernel's two results at one row of a block: from the unit samples and the logits of the row's elements, the first
  column of the greatest score, and the value it stands for.
-/
module

public import proofs.«01_k».proof.Proof.KernelWord

@[expose] public section

noncomputable section

namespace Cert.Proof.KernelRow

open Idealize.ShloMosaic Cert.KernelIdeal Cert.KernelIdeal.Gen Cert.Proof.Sample Cert.Proof.ArgMax

variable (f x : FVec Ideal S512x1024 .f32) (r : Fin 512) (z : Fin 1)

/-- The scores of a row of the block. -/
def scores (c : Fin 1024) : EReal := x (ix2 r c) + gumbel (f (ix2 r c))

/-- The start of the greatest score is the least extended real. -/
theorem lowest : Ideal.ofBits .f32 0xFF800000#32 = ⊥ := by simp [Ideal.ofBits, Ideal.ieee]

/-- The first result. -/
theorem column_at : k0_pay1 f (k0_pay38 (F := Ideal)) x (ix2 r z) = column (scores f x r) := by
  obtain ⟨m, h, -, e⟩ := least_first (D := Finset.univ) ⟨(0 : Fin 1024), Finset.mem_univ _⟩ (s := scores f x r) (k := Fin.val)
    fun i => i.2
  rw [column, pick_eq h, ← e]
  pointwise [k0_pay1, k0_pay38, scores, gumbel, width, tiny]
  simp only [zero_sub, lowest]
  rfl

/-- The second result. -/
theorem level_at : k0_pay2 f (k0_pay38 (F := Ideal)) x (ix2 r z) = level (scores f x r) := by
  rw [level, ← column_at f x r z]
  rfl

end Cert.Proof.KernelRow

end
-- ==== Proof.KernelValue.lean ====
/-
  The two arrays the kernel leaves, row by row: the first column of the row's greatest score, and the value it stands
  for.
-/
module

public import proofs.«01_k».proof.Proof.KernelRow
public import proofs.«01_k».proof.Proof.Gen.KernelIdeal.Run
public import Idealize.ShloMosaic.Lib.Pipeline.ValueKit

@[expose] public section

set_option maxRecDepth 16384

noncomputable section

namespace Cert.Proof.KernelValue

open Cert.KernelIdeal Cert.KernelIdeal.Gen Idealize.ShloMosaic Idealize.ShloMosaic.TcCoe Idealize.SL.Sem
  Cert.Proof.Threefry Cert.Proof.Sample Cert.Proof.KernelRow

variable (m : (ℓ : Loc nD τ sig) → Buf (Elt Ideal) ℓ) (c : Dev nD)

/-- At grid point `t` the coordinate is `t`, and every window's block is block `t` of rows. -/
theorem places : ∀ t : Fin cfg0.N, (grid0.coords t 0).val = t.val ∧ win0_0.index t = ![t.val, 0]
    ∧ win0_1.index t = ![t.val, 0] ∧ win0_2.index t = ![t.val, 0] := by decide +kernel

/-- A block's row of scores is the array's row of scores. -/
theorem scores_eq (t : Fin cfg0.N) (r : Fin 512) :
    scores (k0_pay43 (grid0.coords t) (iblk m c 0 t)) (iblk m c 0 t) r
      = score (logits (m ((c.tc : Thread nD τ).loc main_arg0))) (t.val * 512 + r.val) := by
  funext k
  rw [scores, KernelWord.bits, score, (places t).1]
  have ht : t.val < 32 := t.2
  have hr : t.val * 512 + r.val < 16384 := by have := r.2; omega
  rw [show t.val * 512 + r.val = (⟨_, hr⟩ : Fin 16384).val from rfl, logits_ix2]
  congr 1
  blk_ext [iblk, V_main_arg0, (places t).2.1]

theorem first : Value.reg_main_v0_0 m c
    = fun i => column (score (logits (m ((c.tc : Thread nD τ).loc main_arg0))) (i 0).val) := by
  refine (dats m 0 c).arrAt_eq_of_covers 1 _ (by decide +kernel) fun t hf y => ?_
  blk_simp; rw [after0_1]; frame_out
  rw [(places t).2.2.1]
  obtain ⟨r, z, rfl⟩ : ∃ (r : Fin 512) (z : Fin 1), y = ix2 r z := ⟨y 0, y 1, eq_ix2 y⟩
  exact (column_at _ _ _ _).trans (congrArg column (scores_eq m c t r))

theorem second : Value.reg_main_v0_1 m c
    = fun i => level (score (logits (m ((c.tc : Thread nD τ).loc main_arg0))) (i 0).val) := by
  refine (dats m 0 c).arrAt_eq_of_covers 2 _ (by decide +kernel) fun t hf y => ?_
  blk_simp; rw [after0_2]; frame_out
  rw [(places t).2.2.2]
  obtain ⟨r, z, rfl⟩ : ∃ (r : Fin 512) (z : Fin 1), y = ix2 r z := ⟨y 0, y 1, eq_ix2 y⟩
  exact (level_at _ _ _ _).trans (congrArg level (scores_eq m c t r))

end Cert.Proof.KernelValue

end
-- ==== Proof.RefLine.lean ====
/-
  The reference program as one list of host operations. The random-bits function is cut where the mathematics cuts it:
  a round (`mixOps`), a key injection (`injectOps`), and what comes before the first round.
-/
module

public import proofs.«01_k».proof.Proof.Gen.ReferenceIdeal
public import Idealize.ShloMosaic.Lib.StableHlo.Run
public import Idealize.ShloMosaic.Lib.Pipeline.Frame

@[expose] public section

noncomputable section

namespace Cert.Proof.RefLine

open Cert.ReferenceIdeal Cert.ReferenceIdeal.Gen Cert.ReferenceIdeal.Facts₀ Idealize.ShloMosaic Idealize.ShloMosaic.TcCoe
  Idealize.SL.Sem Idealize.ShloMosaic.StableHlo

variable {F : FTy → Type} [FloatOps F]

/-- A buffer of one word per element. -/
abbrev Words : Type := TRef sig ⟨S16384x1024, .i32⟩

/-- A buffer of one word. -/
abbrev Key : Type := TRef sig ⟨S_, .i32⟩

/-- A buffer of one number per element. -/
abbrev Floats : Type := TRef sig ⟨S16384x1024, .f32⟩

/-- A buffer of one 64-bit word per element. -/
abbrev Longs : Type := TRef sig ⟨S16384x1024, .i64⟩

/-- The contents of a buffer of shape `S`. -/
abbrev Arr (F : FTy → Type) (S : Shape) (e : EltTy) : Type := (⟨S, e⟩ : BufTy).Contents (Elt F)

/-- One word spread over all elements. -/
abbrev spread {α : Type} (v : S_.Idx → α) : S16384x1024.Idx → α := broadcastInDim S16384x1024 ![] Cert.ReferenceIdeal.Facts₀.bcast_S_S16384x1024 v

/-- One round: `x1 = x + y`, `y1 = x1 ^ (y << l | y >> r)`. -/
def mixOps (l r : BitVec 32) (x y x1 : Words) (c : Key) (b s : Words) (c2 : Key) (b2 s2 o y1 : Words) :
    List (HloOp τ sig (Elt F)) :=
  [TRef.binary x y x1 addi,
   TRef.nullary c (constantI S_ 32 l),
   TRef.unary c b spread,
   TRef.binary y b s Host.shli,
   TRef.nullary c2 (constantI S_ 32 r),
   TRef.unary c2 b2 spread,
   TRef.binary y b2 s2 Host.shrui,
   TRef.binary s s2 o ori,
   TRef.binary x1 o y1 xori]

/-- One key injection: `x1 = x + ka`, `y1 = y + kb + n`. -/
def injectOps (n : BitVec 32) (ka kb : Key) (x y ba x1 bb s : Words) (c : Key) (d y1 : Words) :
    List (HloOp τ sig (Elt F)) :=
  [TRef.unary ka ba spread,
   TRef.binary x ba x1 addi,
   TRef.unary kb bb spread,
   TRef.binary y bb s addi,
   TRef.nullary c (constantI S_ 32 n),
   TRef.unary c d spread,
   TRef.binary s d y1 addi]

/-- Before the first round: the key's parity word, and the key added to the counter. -/
def startOps (arg0 arg1 : Key) (arg2 arg3 : Words) (v0 c v1 : Key) (v2 v3 v4 v5 : Words) : List (HloOp τ sig (Elt F)) :=
  [TRef.binary arg0 arg1 v0 xori,
   TRef.nullary c (constantI S_ 32 466688986#32),
   TRef.binary v0 c v1 xori,
   TRef.unary arg0 v2 spread,
   TRef.binary arg2 v2 v3 addi,
   TRef.unary arg1 v4 spread,
   TRef.binary arg3 v4 v5 addi]

/-- The random-bits function: twenty rounds, an injection after every fourth. -/
def threefryOps (arg0 arg1 : Key) (arg2 arg3 : Words) (φ : fn_threefry2x32.Bufs) : List (HloOp τ sig (Elt F)) :=
  startOps arg0 arg1 arg2 arg3 φ.v0 φ.c φ.v1 φ.v2 φ.v3 φ.v4 φ.v5 ++
  mixOps 13#32 19#32 φ.v3 φ.v5 φ.v6 φ.c_0 φ.v7 φ.v8 φ.c_1 φ.v9 φ.v10 φ.v11 φ.v12 ++
  mixOps 15#32 17#32 φ.v6 φ.v12 φ.v13 φ.c_2 φ.v14 φ.v15 φ.c_3 φ.v16 φ.v17 φ.v18 φ.v19 ++
  mixOps 26#32 6#32 φ.v13 φ.v19 φ.v20 φ.c_4 φ.v21 φ.v22 φ.c_5 φ.v23 φ.v24 φ.v25 φ.v26 ++
  mixOps 6#32 26#32 φ.v20 φ.v26 φ.v27 φ.c_6 φ.v28 φ.v29 φ.c_7 φ.v30 φ.v31 φ.v32 φ.v33 ++
  injectOps 1#32 arg1 φ.v1 φ.v27 φ.v33 φ.v34 φ.v35 φ.v36 φ.v37 φ.c_8 φ.v38 φ.v39 ++
  mixOps 17#32 15#32 φ.v35 φ.v39 φ.v40 φ.c_9 φ.v41 φ.v42 φ.c_10 φ.v43 φ.v44 φ.v45 φ.v46 ++
  mixOps 29#32 3#32 φ.v40 φ.v46 φ.v47 φ.c_11 φ.v48 φ.v49 φ.c_12 φ.v50 φ.v51 φ.v52 φ.v53 ++
  mixOps 16#32 16#32 φ.v47 φ.v53 φ.v54 φ.c_13 φ.v55 φ.v56 φ.c_14 φ.v57 φ.v58 φ.v59 φ.v60 ++
  mixOps 24#32 8#32 φ.v54 φ.v60 φ.v61 φ.c_15 φ.v62 φ.v63 φ.c_16 φ.v64 φ.v65 φ.v66 φ.v67 ++
  injectOps 2#32 φ.v1 arg0 φ.v61 φ.v67 φ.v68 φ.v69 φ.v70 φ.v71 φ.c_17 φ.v72 φ.v73 ++
  mixOps 13#32 19#32 φ.v69 φ.v73 φ.v74 φ.c_18 φ.v75 φ.v76 φ.c_19 φ.v77 φ.v78 φ.v79 φ.v80 ++
  mixOps 15#32 17#32 φ.v74 φ.v80 φ.v81 φ.c_20 φ.v82 φ.v83 φ.c_21 φ.v84 φ.v85 φ.v86 φ.v87 ++
  mixOps 26#32 6#32 φ.v81 φ.v87 φ.v88 φ.c_22 φ.v89 φ.v90 φ.c_23 φ.v91 φ.v92 φ.v93 φ.v94 ++
  mixOps 6#32 26#32 φ.v88 φ.v94 φ.v95 φ.c_24 φ.v96 φ.v97 φ.c_25 φ.v98 φ.v99 φ.v100 φ.v101 ++
  injectOps 3#32 arg0 arg1 φ.v95 φ.v101 φ.v102 φ.v103 φ.v104 φ.v105 φ.c_26 φ.v106 φ.v107 ++
  mixOps 17#32 15#32 φ.v103 φ.v107 φ.v108 φ.c_27 φ.v109 φ.v110 φ.c_28 φ.v111 φ.v112 φ.v113 φ.v114 ++
  mixOps 29#32 3#32 φ.v108 φ.v114 φ.v115 φ.c_29 φ.v116 φ.v117 φ.c_30 φ.v118 φ.v119 φ.v120 φ.v121 ++
  mixOps 16#32 16#32 φ.v115 φ.v121 φ.v122 φ.c_31 φ.v123 φ.v124 φ.c_32 φ.v125 φ.v126 φ.v127 φ.v128 ++
  mixOps 24#32 8#32 φ.v122 φ.v128 φ.v129 φ.c_33 φ.v130 φ.v131 φ.c_34 φ.v132 φ.v133 φ.v134 φ.v135 ++
  injectOps 4#32 arg1 φ.v1 φ.v129 φ.v135 φ.v136 φ.v137 φ.v138 φ.v139 φ.c_35 φ.v140 φ.v141 ++
  mixOps 13#32 19#32 φ.v137 φ.v141 φ.v142 φ.c_36 φ.v143 φ.v144 φ.c_37 φ.v145 φ.v146 φ.v147 φ.v148 ++
  mixOps 15#32 17#32 φ.v142 φ.v148 φ.v149 φ.c_38 φ.v150 φ.v151 φ.c_39 φ.v152 φ.v153 φ.v154 φ.v155 ++
  mixOps 26#32 6#32 φ.v149 φ.v155 φ.v156 φ.c_40 φ.v157 φ.v158 φ.c_41 φ.v159 φ.v160 φ.v161 φ.v162 ++
  mixOps 6#32 26#32 φ.v156 φ.v162 φ.v163 φ.c_42 φ.v164 φ.v165 φ.c_43 φ.v166 φ.v167 φ.v168 φ.v169 ++
  injectOps 5#32 φ.v1 arg0 φ.v163 φ.v169 φ.v170 φ.v171 φ.v172 φ.v173 φ.c_44 φ.v174 φ.v175

set_option maxHeartbeats 4000000 in
set_option maxRecDepth 100000 in
/-- The function's text is that list. -/
theorem threefry_eq (arg0 arg1 : Key) (arg2 arg3 : Words) (φ : fn_threefry2x32.Bufs) :
    fn_threefry2x32.body (F := F) arg0 arg1 arg2 arg3 φ = seq (threefryOps arg0 arg1 arg2 arg3 φ) := by
  delta fn_threefry2x32.body fn_threefry2x32.body_part0 fn_threefry2x32.body_part1 fn_threefry2x32.body_part2
    fn_threefry2x32.body_part3 threefryOps startOps mixOps injectOps
  simp only [List.cons_append, List.nil_append, seq, bind_assoc]

/-- The two words of the random key, 0 and 42, as an array of two. -/
def keyOps : List (HloOp τ sig (Elt F)) :=
  [nullary main_c (constantI S_ 32 42#32),
   nullary main_c_0 (constantI S_ 32 32#32),
   binary main_c main_c_0 main_v0 (Host.shrui : Arr F S_ .i32 → Arr F S_ .i32 → Arr F S_ .i32),
   unary main_v0 main_v1 (id : Arr F S_ .i32 → Arr F S_ .i32),
   unary main_v1 main_v2 (broadcastInDim S1 ![] Facts₀.bcast_S_S1 : Arr F S_ .i32 → Arr F S1 .i32),
   nullary main_c_1 (constantI S_ 32 4294967295#32),
   binary main_c main_c_1 main_v3 (andi : Arr F S_ .i32 → Arr F S_ .i32 → Arr F S_ .i32),
   unary main_v3 main_v4 (id : Arr F S_ .i32 → Arr F S_ .i32),
   unary main_v4 main_v5 (broadcastInDim S1 ![] Facts₀.bcast_S_S1 : Arr F S_ .i32 → Arr F S1 .i32),
   binary main_v2 main_v5 main_v6 ((fun a b => concatenate S2 0 [⟨S1, a⟩, ⟨S1, b⟩] Facts₀.concatenates_S1_S1_S2_d0) : Arr F S1 .i32 → Arr F S1 .i32 → Arr F S2 .i32)]

/-- The two ends of the uniform range. -/
def limitOps (φ : fn_gumbel.Bufs) : List (HloOp τ sig (Elt F)) :=
  [TRef.nullary φ.cst (constant S_ .f32 0x3F800000#32),
   TRef.nullary φ.cst_0 (constant S_ .f32 0x00800000#32)]

/-- The key taken apart again and the counter of every element, its number as a 64-bit word cut in two. -/
def counterOps (arg0 : TRef sig ⟨S2, .i32⟩) (arg1 arg2 : TRef sig ⟨S_, .f32⟩) (φ : fn_uniform.Bufs) : List (HloOp τ sig (Elt F)) :=
  [TRef.unary arg1 φ.v0 id,
   TRef.unary arg2 φ.v1 (broadcastInDim S1x1 ![] Facts₀.bcast_S_S1x1),
   TRef.unary φ.v0 φ.v2 (broadcastInDim S1x1 ![] Facts₀.bcast_S_S1x1),
   TRef.unary arg0 φ.v3 (extractStridedSlice S1 ![0] · Facts₀.slices_S2_S1_0),
   TRef.reshape φ.v3 φ.v4 (rfl : (.i32 : EltTy) = .i32) Facts₀.shapeCasts_S1_S_,
   TRef.unary arg0 φ.v5 (extractStridedSlice S1 ![1] · Facts₀.slices_S2_S1_1),
   TRef.reshape φ.v5 φ.v6 (rfl : (.i32 : EltTy) = .i32) Facts₀.shapeCasts_S1_S_,
   TRef.nullary φ.v7 (iotaInDim S16384x1024 64 0),
   TRef.nullary φ.v8 (iotaInDim S16384x1024 64 1),
   TRef.nullary φ.c (constantI S_ 64 1024#64),
   TRef.unary φ.c φ.v9 (broadcastInDim S16384x1024 ![] Facts₀.bcast_S_S16384x1024),
   TRef.binary φ.v9 φ.v7 φ.v10 muli,
   TRef.nullary φ.c_0 (constantI S_ 64 1#64),
   TRef.unary φ.c_0 φ.v11 (broadcastInDim S16384x1024 ![] Facts₀.bcast_S_S16384x1024),
   TRef.binary φ.v11 φ.v8 φ.v12 muli,
   TRef.binary φ.v10 φ.v12 φ.v13 addi,
   TRef.nullary φ.c_1 (constantI S_ 64 32#64),
   TRef.unary φ.c_1 φ.v14 (broadcastInDim S16384x1024 ![] Facts₀.bcast_S_S16384x1024),
   TRef.binary φ.v13 φ.v14 φ.v15 Host.shrui,
   TRef.unary φ.v13 φ.v16 (trunci 32 · Facts₀.natLt_32_64),
   TRef.unary φ.v15 φ.v17 (trunci 32 · Facts₀.natLt_32_64)]

/-- The random bits made a float of the range. -/
def uniformOps (φ : fn_uniform.Bufs) : List (HloOp τ sig (Elt F)) :=
  [TRef.binary φ.call0.v171 φ.call0.v175 φ.v19 xori,
   TRef.nullary φ.c_2 (constantI S_ 32 9#32),
   TRef.unary φ.c_2 φ.v20 (broadcastInDim S16384x1024 ![] Facts₀.bcast_S_S16384x1024),
   TRef.binary φ.v19 φ.v20 φ.v21 Host.shrui,
   TRef.nullary φ.c_3 (constantI S_ 32 1065353216#32),
   TRef.unary φ.c_3 φ.v22 (broadcastInDim S16384x1024 ![] Facts₀.bcast_S_S16384x1024),
   TRef.binary φ.v21 φ.v22 φ.v23 ori,
   TRef.unary φ.v23 φ.v24 (bitcastToFloat .f32),
   TRef.nullary φ.cst (constant S_ .f32 0x3F800000#32),
   TRef.unary φ.cst φ.v25 (broadcastInDim S16384x1024 ![] Facts₀.bcast_S_S16384x1024),
   TRef.binary φ.v24 φ.v25 φ.v26 subf,
   TRef.binary φ.v2 φ.v1 φ.v27 subf,
   TRef.unary φ.v27 φ.v28 (broadcastInDim S16384x1024 ![0, 1] Facts₀.bcast_S1x1_S16384x1024_0_1),
   TRef.binary φ.v26 φ.v28 φ.v29 mulf,
   TRef.unary φ.v1 φ.v30 (broadcastInDim S16384x1024 ![0, 1] Facts₀.bcast_S1x1_S16384x1024_0_1),
   TRef.binary φ.v29 φ.v30 φ.v31 addf,
   TRef.unary φ.v1 φ.v32 (broadcastInDim S16384x1024 ![0, 1] Facts₀.bcast_S1x1_S16384x1024_0_1),
   TRef.binary φ.v32 φ.v31 φ.v33 maximumf]

/-- The float made Gumbel noise. -/
def gumbelOps (φ : fn_gumbel.Bufs) : List (HloOp τ sig (Elt F)) :=
  [TRef.unary φ.call0.v33 φ.v1 Host.log,
   TRef.unary φ.v1 φ.v2 Host.negf,
   TRef.unary φ.v2 φ.v3 Host.log,
   TRef.unary φ.v3 φ.v4 Host.negf]

/-- The noise plus the logits. -/
def scoreOps : List (HloOp τ sig (Elt F)) :=
  [binary main_v7 main_arg0 main_v8 (addf : Arr F S16384x1024 .f32 → Arr F S16384x1024 .f32 → Arr F S16384x1024 .f32)]

/-- The index of each row's greatest score. -/
def argmaxOps (arg0 : Floats) (φ : fn_argmax.Bufs) : List (HloOp τ sig (Elt F)) :=
  [TRef.nullary φ.v0 (iotaInDim S16384x1024 32 1),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v Facts₀.reducesTo_S16384x1024_S16384_d1 Facts₀.h_S_ j).1),
   TRef.quaternary arg0 φ.v0 φ.cst φ.c φ.v1_1 (fun x y u v j => (Host.argReduce reducer_argmax_f32_i32 x y u v Facts₀.reducesTo_S16384x1024_S16384_d1 Facts₀.h_S_ j).2)]

/-- The index as a float beside its position on the axis. -/
def outOps : List (HloOp τ sig (Elt F)) :=
  [unary main_v9 main_v10 (sitofp .f32 : Arr F S16384 .i32 → Arr F S16384 .f32),
   unary main_v10 main_v11 (broadcastInDim S16384x1 ![0] Facts₀.bcast_S16384_S16384x1_0 : Arr F S16384 .f32 → Arr F S16384x1 .f32),
   nullary main_cst (constant S_ .f32 0x00000000#32),
   unary main_cst main_v12 (broadcastInDim S16384x1 ![] Facts₀.bcast_S_S16384x1 : Arr F S_ .f32 → Arr F S16384x1 .f32),
   binary main_v11 main_v12 main_v13 (subf : Arr F S16384x1 .f32 → Arr F S16384x1 .f32 → Arr F S16384x1 .f32),
   nullary main_cst_2 (constant S_ .f32 0x3BCA9567#32),
   unary main_cst_2 main_v14 (broadcastInDim S16384x1 ![] Facts₀.bcast_S_S16384x1 : Arr F S_ .f32 → Arr F S16384x1 .f32),
   binary main_v14 main_v13 main_v15 (mulf : Arr F S16384x1 .f32 → Arr F S16384x1 .f32 → Arr F S16384x1 .f32),
   nullary main_cst_3 (constant S_ .f32 0xC04A62C2#32),
   unary main_cst_3 main_v16 (broadcastInDim S16384x1 ![] Facts₀.bcast_S_S16384x1 : Arr F S_ .f32 → Arr F S16384x1 .f32),
   binary main_v16 main_v15 main_v17 (addf : Arr F S16384x1 .f32 → Arr F S16384x1 .f32 → Arr F S16384x1 .f32),
   binary main_v11 main_v17 main_v18 ((fun a b => concatenate S16384x2 1 [⟨S16384x1, a⟩, ⟨S16384x1, b⟩] Facts₀.concatenates_S16384x1_S16384x1_S16384x2_d1) : Arr F S16384x1 .f32 → Arr F S16384x1 .f32 → Arr F S16384x2 .f32)]

/-- The whole program. -/
def ops : List (HloOp τ sig (Elt F)) :=
  keyOps ++ limitOps main_call0 ++ counterOps (.of main_v6) main_call0.cst main_call0.cst_0 main_call0_call0 ++
  threefryOps main_call0_call0.v4 main_call0_call0.v6 main_call0_call0.v17 main_call0_call0.v16 main_call0_call0_call0 ++
  uniformOps main_call0_call0 ++ gumbelOps main_call0 ++ scoreOps ++ argmaxOps (.of main_v8) main_call1 ++ outOps

set_option maxHeartbeats 4000000 in
set_option maxRecDepth 100000 in
/-- The program's text is that list. -/
theorem main_eq (c : Dev nD) : main (F := F) c = seq ops := by
  delta main fn_gumbel.body fn_uniform.body fn_argmax.body ops
  simp only [threefry_eq]
  delta keyOps limitOps counterOps uniformOps gumbelOps scoreOps argmaxOps outOps
  simp only [List.cons_append, List.nil_append, List.append_assoc, seq, seq_append, bind_assoc, pure_bind]

end Cert.Proof.RefLine

end
-- ==== Proof.RefRun.lean ====
/-
  The reference program's run: it ends, every buffer holds what the list of operations leaves there, the argument is
  unchanged and every semaphore reads zero.
-/
module

public import proofs.«01_k».proof.Proof.RefLine

@[expose] public section

noncomputable section

namespace Cert.Proof.RefRun

open Cert.ReferenceIdeal Cert.ReferenceIdeal.Gen Idealize.ShloMosaic Idealize.ShloMosaic.TcCoe
  Idealize.SL.Sem Idealize.ShloMosaic.StableHlo Cert.Proof.RefLine

variable {F : FTy → Type} [FloatOps F]

/-- An operation that touches device buffers only and writes none of them with unspecified contents. -/
def Plain (op : HloOp τ sig (Elt F)) : Prop := op.bufs ⊆ tcRefs τ sig ∧ op.fresh = ∅

section
variable (x a b c d y : Ref sig .tc)
theorem plain_nullary (v : y.ty.Contents (Elt F)) (hy) : Plain (nullary y v hy) := ⟨nullary_bufs_sub .., rfl⟩
theorem plain_unary (f : x.ty.Contents (Elt F) → y.ty.Contents (Elt F)) (hx hy) : Plain (unary x y f hx hy) :=
  ⟨unary_bufs_sub .., rfl⟩
theorem plain_binary (f : a.ty.Contents (Elt F) → b.ty.Contents (Elt F) → y.ty.Contents (Elt F)) (ha hb hy) :
    Plain (binary a b y f ha hb hy) := ⟨binary_bufs_sub .., rfl⟩
theorem plain_quaternary (f : a.ty.Contents (Elt F) → b.ty.Contents (Elt F) → c.ty.Contents (Elt F) → d.ty.Contents (Elt F) →
    y.ty.Contents (Elt F)) (ha hb hc hd hy) : Plain (quaternary a b c d y f ha hb hc hd hy) := ⟨quaternary_bufs_sub .., rfl⟩
theorem plain_reshape (he hn hx hy) : Plain (F := F) (reshape x y he hn hx hy) := ⟨reshape_bufs_sub .., rfl⟩
end

variable (arg0 arg1 : Key) (x y : Words)

theorem mix_plain (l r : BitVec 32) (x1 : Words) (c : Key) (b s : Words) (c2 : Key) (b2 s2 o y1 : Words) :
    (mixOps (F := F) l r x y x1 c b s c2 b2 s2 o y1).Forall Plain :=
  ⟨plain_binary .., plain_nullary .., plain_unary .., plain_binary .., plain_nullary .., plain_unary .., plain_binary ..,
    plain_binary .., plain_binary ..⟩

theorem inject_plain (n : BitVec 32) (ba x1 bb s : Words) (c : Key) (d y1 : Words) :
    (injectOps (F := F) n arg0 arg1 x y ba x1 bb s c d y1).Forall Plain :=
  ⟨plain_unary .., plain_binary .., plain_unary .., plain_binary .., plain_nullary .., plain_unary .., plain_binary ..⟩

theorem start_plain (v0 c v1 : Key) (v2 v3 v4 v5 : Words) :
    (startOps (F := F) arg0 arg1 x y v0 c v1 v2 v3 v4 v5).Forall Plain :=
  ⟨plain_binary .., plain_nullary .., plain_binary .., plain_unary .., plain_binary .., plain_unary .., plain_binary ..⟩

theorem threefry_plain (φ : fn_threefry2x32.Bufs) : (threefryOps (F := F) arg0 arg1 x y φ).Forall Plain := by
  delta threefryOps
  simp only [List.forall_append, mix_plain, inject_plain, start_plain, and_self]

theorem key_plain : (keyOps (F := F)).Forall Plain :=
  ⟨plain_nullary .., plain_nullary .., plain_binary .., plain_unary .., plain_unary .., plain_nullary .., plain_binary ..,
    plain_unary .., plain_unary .., plain_binary ..⟩

theorem limit_plain (φ : fn_gumbel.Bufs) : (limitOps (F := F) φ).Forall Plain := ⟨plain_nullary .., plain_nullary ..⟩

theorem counter_plain (k : TRef sig ⟨S2, .i32⟩) (a b : TRef sig ⟨S_, .f32⟩) (φ : fn_uniform.Bufs) :
    (counterOps (F := F) k a b φ).Forall Plain :=
  ⟨plain_unary .., plain_unary .., plain_unary .., plain_unary .., plain_reshape .., plain_unary .., plain_reshape ..,
    plain_nullary .., plain_nullary .., plain_nullary .., plain_unary .., plain_binary .., plain_nullary .., plain_unary ..,
    plain_binary .., plain_binary .., plain_nullary .., plain_unary .., plain_binary .., plain_unary .., plain_unary ..⟩

theorem uniform_plain (φ : fn_uniform.Bufs) : (uniformOps (F := F) φ).Forall Plain :=
  ⟨plain_binary .., plain_nullary .., plain_unary .., plain_binary .., plain_nullary .., plain_unary .., plain_binary ..,
    plain_unary .., plain_nullary .., plain_unary .., plain_binary .., plain_binary .., plain_unary .., plain_binary ..,
    plain_unary .., plain_binary .., plain_unary .., plain_binary ..⟩

theorem gumbel_plain (φ : fn_gumbel.Bufs) : (gumbelOps (F := F) φ).Forall Plain :=
  ⟨plain_unary .., plain_unary .., plain_unary .., plain_unary ..⟩

theorem score_plain : (scoreOps (F := F)).Forall Plain := plain_binary ..

theorem argmax_plain (s : Floats) (φ : fn_argmax.Bufs) : (argmaxOps (F := F) s φ).Forall Plain :=
  ⟨plain_nullary .., plain_nullary .., plain_nullary .., plain_quaternary .., plain_quaternary ..⟩

theorem out_plain : (outOps (F := F)).Forall Plain :=
  ⟨plain_unary .., plain_unary .., plain_nullary .., plain_unary .., plain_binary .., plain_nullary .., plain_unary ..,
    plain_binary .., plain_nullary .., plain_unary .., plain_binary .., plain_binary ..⟩

/-- Every operation of the program is plain. -/
theorem ops_plain : (ops (F := F)).Forall Plain := by
  simp only [ops, List.forall_append, key_plain, limit_plain, counter_plain, threefry_plain, uniform_plain, gumbel_plain,
    score_plain, argmax_plain, out_plain, and_self]

theorem scopedRefs_eq : (Finset.univ.filter fun b : Ref sig .tc => b.isScoped) = ∅ := by decide
theorem scopedSems_eq : (Finset.univ.filter fun sm : SemLoc sig => sm.isScoped .tc) = ∅ := by decide

/-- The run, every buffer read off the list. -/
theorem run (m : (ℓ : Loc nD τ sig) → Buf (Elt F) ℓ) (ρ : Dev nD → PrngReg) :
    θ_run defs (onTc (τ := τ) main) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq
    (fun _ => ops_plain.imp fun _ h => h.1) m ρ (fun _ op h => (List.forall_iff_forall_mem.mp ops_plain op h).2)

/-- The program has no semaphore, so every counter reads zero. -/
theorem sem_zero (s : MemSt nD τ sig (Elt F)) : s.sem = fun _ => 0 := by
  funext g
  rcases g with ⟨_, ⟨k, hk⟩ | ⟨k, hk⟩⟩ <;> exact absurd hk (Nat.not_lt_zero k)

end Cert.Proof.RefRun

end
-- ==== Proof.RefRead.lean ====
/-
  What the pieces of the reference's random-bits function leave in its buffers: a round and a key injection, at one
  element, are the mathematical round and injection, and a whole line of them keeps what it does not write.
-/
module

public import proofs.«01_k».proof.Proof.RefLine
public import proofs.«01_k».proof.Proof.Threefry

@[expose] public section

noncomputable section

namespace Cert.Proof.RefRead

open Cert.ReferenceIdeal Cert.ReferenceIdeal.Gen Idealize.ShloMosaic Idealize.ShloMosaic.TcCoe
  Idealize.SL.Sem Idealize.ShloMosaic.StableHlo Cert.Proof.RefLine Cert.Proof.Threefry

variable {F : FTy → Type} [FloatOps F]

/-- The contents of a tensor value's buffer. -/
def val {T : BufTy} (r : TRef sig T) (V : Valuation τ sig (Elt F)) : T.Contents (Elt F) :=
  r.ofBuf (V (Proc.devRef .tc r.ref))

section
variable {T Tx Ta Tb Ty : BufTy} (r : TRef sig T) (x : TRef sig Tx) (a : TRef sig Ta) (b : TRef sig Tb) (y : TRef sig Ty)
  (V : Valuation τ sig (Elt F))

theorem val_nullary (v : Ty.Contents (Elt F)) : val y ((TRef.nullary y v).result V) = v := by
  rw [val, nullary_result', TRef.ofBuf_toBuf]
theorem val_unary (f : Tx.Contents (Elt F) → Ty.Contents (Elt F)) : val y ((TRef.unary x y f).result V) = f (val x V) := by
  rw [val, unary_result', TRef.ofBuf_toBuf, val]
theorem val_binary (f : Ta.Contents (Elt F) → Tb.Contents (Elt F) → Ty.Contents (Elt F)) :
    val y ((TRef.binary a b y f).result V) = f (val a V) (val b V) := by
  rw [val, binary_result', TRef.ofBuf_toBuf, val, val]
theorem val_nullary_ne (v : Ty.Contents (Elt F)) (h : r.ref ≠ y.ref) : val r ((TRef.nullary y v).result V) = val r V := by
  rw [val, nullary_result_ne' (h := h), val]
theorem val_unary_ne (f : Tx.Contents (Elt F) → Ty.Contents (Elt F)) (h : r.ref ≠ y.ref) :
    val r ((TRef.unary x y f).result V) = val r V := by
  rw [val, unary_result_ne' (h := h), val]
theorem val_binary_ne (f : Ta.Contents (Elt F) → Tb.Contents (Elt F) → Ty.Contents (Elt F)) (h : r.ref ≠ y.ref) :
    val r ((TRef.binary a b y f).result V) = val r V := by
  rw [val, binary_result_ne' (h := h), val]
end

/-- The host's left shift by a literal amount spread over all elements. -/
theorem hostShli (x : IVec S16384x1024 32) {k : Nat} (hk : k < 32) (i : S16384x1024.Idx) :
    Host.shli x (spread (constantI S_ 32 (BitVec.ofNat 32 k))) i = x i <<< k := shli_lit _ _ hk

/-- The host's logical right shift by a literal amount spread over all elements. -/
theorem hostShrui (x : IVec S16384x1024 32) {k : Nat} (hk : k < 32) (i : S16384x1024.Idx) :
    Host.shrui x (spread (constantI S_ 32 (BitVec.ofNat 32 k))) i = x i >>> k := shrui_lit _ _ hk

variable (V : Valuation τ sig (Elt F)) (i : S16384x1024.Idx) (x y x1 : Words) (c : Key) (b s : Words) (c2 : Key)
  (b2 s2 o y1 : Words)

/-- A round's two results. -/
theorem mix_read {k : Nat} (h0 : 0 < k) (hk : k < 32)
    (hn : [x.ref, y.ref, x1.ref, c.ref, b.ref, s.ref, c2.ref, b2.ref, s2.ref, o.ref, y1.ref].Nodup) :
    (val x1 (after (mixOps (BitVec.ofNat 32 k) (BitVec.ofNat 32 (32 - k)) x y x1 c b s c2 b2 s2 o y1) V) i,
      val y1 (after (mixOps (BitVec.ofNat 32 k) (BitVec.ofNat 32 (32 - k)) x y x1 c b s c2 b2 s2 o y1) V) i)
      = mix k (val x V i, val y V i) := by
  have hr := List.nodup_reverse.mpr hn
  simp only [List.reverse_cons, List.reverse_nil, List.nil_append, List.cons_append, List.nodup_cons, List.mem_cons,
    List.not_mem_nil, or_false, not_or, List.nodup_nil, and_true, not_false_eq_true] at hn hr
  simp only [mixOps, after_cons, after_nil, val_nullary, val_unary, val_binary, val_nullary_ne, val_unary_ne, val_binary_ne, hn, hr,
    ne_eq, not_false_eq_true, mix]
  have hs : 32 - k < 32 := by omega
  simp only [addi, xori, ori, IntOp.addi, IntOp.xori, IntOp.ori]
  rw [BitVec.xor_comm, hostShli _ hk, hostShrui _ hs]

variable (ka kb : Key) (ba bb d : Words)

/-- An injection's two results, from the words its keys hold. -/
theorem inject_read (n u v : BitVec 32) (hu : val ka V = fun _ => u) (hv : val kb V = fun _ => v)
    (hn : [ka.ref, kb.ref, x.ref, y.ref, ba.ref, x1.ref, bb.ref, s.ref, c.ref, d.ref, y1.ref].Nodup) :
    (val x1 (after (injectOps n ka kb x y ba x1 bb s c d y1) V) i, val y1 (after (injectOps n ka kb x y ba x1 bb s c d y1) V) i)
      = inject u v n (val x V i, val y V i) := by
  have hr := List.nodup_reverse.mpr hn
  simp only [List.reverse_cons, List.reverse_nil, List.nil_append, List.cons_append, List.nodup_cons, List.mem_cons,
    List.not_mem_nil, or_false, not_or, List.nodup_nil, and_true, not_false_eq_true] at hn hr
  simp only [injectOps, after_cons, after_nil, val_nullary, val_unary, val_binary, val_nullary_ne, val_unary_ne, val_binary_ne, hn,
    hr, ne_eq, not_false_eq_true, hu, hv]
  rfl

/-- Before the first round: the key is added to the counter, and its parity word is laid down. -/
theorem start_read (v0 v1 : Key) (v2 v3 v4 v5 : Words) (u v : BitVec 32) (hu : val ka V = fun _ => u) (hv : val kb V = fun _ => v)
    (hn : [ka.ref, kb.ref, x.ref, y.ref, v0.ref, c.ref, v1.ref, v2.ref, v3.ref, v4.ref, v5.ref].Nodup) :
    (val v3 (after (startOps ka kb x y v0 c v1 v2 v3 v4 v5) V) i, val v5 (after (startOps ka kb x y v0 c v1 v2 v3 v4 v5) V) i)
      = (val x V i + u, val y V i + v)
    ∧ val v1 (after (startOps ka kb x y v0 c v1 v2 v3 v4 v5) V) = fun _ => parity u v := by
  have hr := List.nodup_reverse.mpr hn
  simp only [List.reverse_cons, List.reverse_nil, List.nil_append, List.cons_append, List.nodup_cons, List.mem_cons,
    List.not_mem_nil, or_false, not_or, List.nodup_nil, and_true, not_false_eq_true] at hn hr
  simp only [startOps, after_cons, after_nil, val_nullary, val_unary, val_binary, val_nullary_ne, val_unary_ne, val_binary_ne, hn,
    hr, ne_eq, not_false_eq_true, hu, hv]
  exact ⟨rfl, rfl⟩

/-- A round writes its results and its own temporaries only. -/
theorem mix_keep (l r : BitVec 32) (q : Ref sig .tc)
    (h : q ∉ [x1.ref, c.ref, b.ref, s.ref, c2.ref, b2.ref, s2.ref, o.ref, y1.ref]) :
    after (mixOps l r x y x1 c b s c2 b2 s2 o y1) V (Proc.devRef .tc q) = V (Proc.devRef .tc q) :=
  after_of_writes_sub _ V (forall_writes_sub_of_map rfl) h

/-- An injection writes its results and its own temporaries only. -/
theorem inject_keep (n : BitVec 32) (q : Ref sig .tc) (h : q ∉ [ba.ref, x1.ref, bb.ref, s.ref, c.ref, d.ref, y1.ref]) :
    after (injectOps n ka kb x y ba x1 bb s c d y1) V (Proc.devRef .tc q) = V (Proc.devRef .tc q) :=
  after_of_writes_sub _ V (forall_writes_sub_of_map rfl) h

/-- The state between two pieces: the buffers `x` and `y` hold the pair `p` at element `i`, and every buffer of the list `K`
    holds what it held in `V₀`. -/
structure At (K : List (Ref sig .tc)) (V₀ : Valuation τ sig (Elt F)) (i : S16384x1024.Idx) (x y : Words)
    (p : BitVec 32 × BitVec 32) (V : Valuation τ sig (Elt F)) : Prop where
  state : (val x V i, val y V i) = p
  kept : ∀ q ∈ K, V (Proc.devRef .tc q) = V₀ (Proc.devRef .tc q)

variable {V i x y}
variable {K : List (Ref sig .tc)} {V₀ : Valuation τ sig (Elt F)} {p : BitVec 32 × BitVec 32} {x1 c b s c2 b2 s2 o y1 ka kb ba bb d}

/-- A round takes the state a round further. -/
theorem At.mix {k : Nat} {l r : BitVec 32} (hl : l = BitVec.ofNat 32 k) (hr : r = BitVec.ofNat 32 (32 - k))
    (h0 : 0 < k ∧ k < 32)
    (hn : [x.ref, y.ref, x1.ref, c.ref, b.ref, s.ref, c2.ref, b2.ref, s2.ref, o.ref, y1.ref].Nodup)
    (hK : ∀ q ∈ K, q ∉ [x1.ref, c.ref, b.ref, s.ref, c2.ref, b2.ref, s2.ref, o.ref, y1.ref])
    (h : At K V₀ i x y p V) :
    At K V₀ i x1 y1 (Threefry.mix k p) (after (mixOps l r x y x1 c b s c2 b2 s2 o y1) V) := by
  subst hl hr
  exact ⟨by rw [mix_read V i (h0 := h0.1) (hk := h0.2) (hn := hn), h.state],
    fun q hq => (mix_keep (h := hK q hq) ..).trans (h.kept q hq)⟩

/-- An injection takes the state past it. -/
theorem At.inject {n u v : BitVec 32} (hu : val ka V₀ = fun _ => u) (hv : val kb V₀ = fun _ => v)
    (hk : ka.ref ∈ K ∧ kb.ref ∈ K)
    (hn : [ka.ref, kb.ref, x.ref, y.ref, ba.ref, x1.ref, bb.ref, s.ref, c.ref, d.ref, y1.ref].Nodup)
    (hK : ∀ q ∈ K, q ∉ [ba.ref, x1.ref, bb.ref, s.ref, c.ref, d.ref, y1.ref])
    (h : At K V₀ i x y p V) :
    At K V₀ i x1 y1 (Threefry.inject u v n p) (after (injectOps n ka kb x y ba x1 bb s c d y1) V) :=
  ⟨by rw [inject_read V i (hu := by rw [← hu, val, val, h.kept _ hk.1]) (hv := by rw [← hv, val, val, h.kept _ hk.2])
      (hn := hn), h.state],
    fun q hq => (inject_keep (h := hK q hq) ..).trans (h.kept q hq)⟩

end Cert.Proof.RefRead

end
-- ==== Proof.RefWord.lean ====
/-
  The reference's random bits at one element: its random-bits function, read off the list of its operations, is the
  Threefry-2x32 function of the key and the counter it is given.
-/
module

public import proofs.«01_k».proof.Proof.RefRead

@[expose] public section

noncomputable section

namespace Cert.Proof.RefWord

open Cert.ReferenceIdeal Cert.ReferenceIdeal.Gen Idealize.ShloMosaic Idealize.ShloMosaic.TcCoe
  Idealize.SL.Sem Idealize.ShloMosaic.StableHlo Cert.Proof.RefLine Cert.Proof.RefRead Cert.Proof.Threefry

variable {F : FTy → Type} [FloatOps F]

/-- The function's record and its arguments, as the one call names them. -/
abbrev φ : fn_threefry2x32.Bufs := main_call0_call0_call0
abbrev k0 : Key := main_call0_call0.v4
abbrev k1 : Key := main_call0_call0.v6
abbrev n0 : Words := main_call0_call0.v17
abbrev n1 : Words := main_call0_call0.v16

/-- The buffers later operations read: the logits, the two ends of the range, and the key's three words. -/
abbrev held : List (Ref sig .tc) :=
  [main_arg0, main_call0_call0_v1, main_call0_call0_v2, main_call0_call0_v4, main_call0_call0_v6, main_call0_call0_call0_v1]

variable (V : Valuation τ sig (Elt F)) (i : S16384x1024.Idx)

/-- The contents before the first round. -/
abbrev start : Valuation τ sig (Elt F) := after (startOps k0 k1 n0 n1 φ.v0 φ.c φ.v1 φ.v2 φ.v3 φ.v4 φ.v5) V

variable {V i} {a b : BitVec 32} (ha : val k0 V = fun _ => a) (hb : val k1 V = fun _ => b)

/-- What the operations before the first round leave alone. -/
theorem start_keep (V : Valuation τ sig (Elt F)) (q : Ref sig .tc)
    (h : q ∉ [φ.v0.ref, φ.c.ref, φ.v1.ref, φ.v2.ref, φ.v3.ref, φ.v4.ref, φ.v5.ref]) :
    start V (Proc.devRef .tc q) = V (Proc.devRef .tc q) :=
  after_of_writes_sub _ V (forall_writes_sub_of_map rfl) h

include ha hb

set_option maxRecDepth 10000 in
/-- The two words the function returns at element `i`, and what it leaves alone. -/
theorem threefry_at : At held (start V) i φ.v171 φ.v175 (threefry a b (val n0 V i, val n1 V i))
    (after (threefryOps k0 k1 n0 n1 φ) V) := by
  have h0 : val k0 (start V) = fun _ => a := by rw [← ha, val, val, start_keep V _ (by decide)]
  have h1 : val k1 (start V) = fun _ => b := by rw [← hb, val, val, start_keep V _ (by decide)]
  have hs := start_read V i (y := n1) (x := n0) (c := φ.c) (v0 := φ.v0) (v1 := φ.v1) (v2 := φ.v2) (v3 := φ.v3) (v4 := φ.v4)
    (v5 := φ.v5) (hu := ha) (hv := hb) (hn := by decide)
  have h2 := hs.2
  delta threefryOps
  simp only [StableHlo.after_append, threefry, evenRounds, oddRounds]
  repeat' first
    | refine At.mix rfl rfl (by decide) (by decide) (by decide) ?_
    | refine At.inject (by assumption) (by assumption) (by decide) (by decide) (by decide) ?_
  exact ⟨hs.1, fun _ _ => rfl⟩

omit ha hb in
/-- The buffers later operations read, over the whole function. -/
theorem threefry_keep (ha : val k0 V = fun _ => a) (hb : val k1 V = fun _ => b) (q : Ref sig .tc)
    (h : q = main_arg0 ∨ q = main_call0_call0_v1 ∨ q = main_call0_call0_v2) :
    after (threefryOps k0 k1 n0 n1 φ) V (Proc.devRef .tc q) = V (Proc.devRef .tc q) :=
  ((threefry_at (i := fun a => ⟨0, by revert a; decide⟩) ha hb).kept q (by rcases h with rfl | rfl | rfl <;> decide)).trans
    (start_keep V q (by rcases h with rfl | rfl | rfl <;> decide))

end Cert.Proof.RefWord

end
-- ==== Proof.RefHead.lean ====
/-
  What the reference has before its random-bits function: the key (0, 42), every element's counter (0, n), `n` being the
  element's number, and the two ends of the uniform range.
-/
module

public import proofs.«01_k».proof.Proof.RefWord
public import Idealize.ShloMosaic.Lib.StableHlo.RunRead
public import Idealize.ShloMosaic.Lib.StableHlo.ReadAt
public import Idealize.ShloMosaic.Lib.Pointwise

@[expose] public section

noncomputable section

namespace Cert.Proof.RefHead

open Cert.ReferenceIdeal Cert.ReferenceIdeal.Gen Idealize.ShloMosaic Idealize.ShloMosaic.TcCoe
  Idealize.SL.Sem Idealize.ShloMosaic.StableHlo Cert.Proof.RefLine Cert.Proof.RefRead Cert.Proof.RefWord

variable {F : FTy → Type} [FloatOps F] (V : Valuation τ sig (Elt F))

/-- The operations before the random-bits function, the key's apart. -/
abbrev countOps : List (HloOp τ sig (Elt F)) :=
  limitOps main_call0 ++ counterOps (.of main_v6) main_call0.cst main_call0.cst_0 main_call0_call0

/-- All of them. -/
abbrev headOps : List (HloOp τ sig (Elt F)) := keyOps ++ countOps

/-- The key: the seed's upper half and its lower half. -/
theorem key_v6 : after keyOps V (Proc.devRef .tc main_v6)
    = concatenate S2 0 [⟨S1, fun _ => 0#32⟩, ⟨S1, fun _ => 42#32⟩] Facts₀.concatenates_S1_S1_S2_d0 := by
  rw [keyOps]
  after_results
  have h0 : broadcastInDim S1 ![] Facts₀.bcast_S_S1 (id (Host.shrui (constantI S_ 32 42#32) (constantI S_ 32 32#32)))
      = fun _ => 0#32 := by
    funext i; pointwise; decide
  have h1 : broadcastInDim S1 ![] Facts₀.bcast_S_S1 (id (andi (constantI S_ 32 42#32) (constantI S_ 32 4294967295#32)))
      = fun _ => 42#32 := by
    funext i; pointwise; decide
  rw [← h0, ← h1]

theorem head_k0 : val k0 (after headOps V) = fun _ => 0#32 := by
  rw [val, headOps, StableHlo.after_append]
  after_reads_simp
  funext i
  show shapeCast S_ (extractStridedSlice S1 ![0] (after keyOps V (Proc.devRef .tc main_v6)) Facts₀.slices_S2_S1_0)
    Facts₀.shapeCasts_S1_S_ i = 0#32
  rw [key_v6]
  pointwise

theorem head_k1 : val k1 (after headOps V) = fun _ => 42#32 := by
  rw [val, headOps, StableHlo.after_append]
  after_reads_simp
  funext i
  show shapeCast S_ (extractStridedSlice S1 ![1] (after keyOps V (Proc.devRef .tc main_v6)) Facts₀.slices_S2_S1_1)
    Facts₀.shapeCasts_S1_S_ i = 42#32
  rw [key_v6]
  pointwise

/-- The element's number as a 64-bit word. -/
theorem number (i : S16384x1024.Idx) :
    IntOp.addi (IntOp.muli 1024#64 (BitVec.ofNat 64 (i 0).val)) (IntOp.muli 1#64 (BitVec.ofNat 64 (i 1).val))
      = BitVec.ofNat 64 ((i 0).val * 1024 + (i 1).val) := by
  apply BitVec.eq_of_toNat_eq
  simp only [IntOp.addi, IntOp.muli, BitVec.toNat_add, BitVec.toNat_mul, BitVec.toNat_ofNat]
  omega

theorem head_n0 (i : S16384x1024.Idx) : val n0 (after headOps V) i = 0#32 := by
  rw [val]
  after_reads_simp
  simp only [TRef.ofBuf_toBuf]
  pointwise
  rw [number]
  have h0 : (i 0).val < 16384 := (i 0).2
  have h1 : (i 1).val < 1024 := (i 1).2
  apply BitVec.eq_of_toNat_eq
  rw [show IntOp.shrui ArithUnit.host (BitVec.ofNat 64 ((i 0).val * 1024 + (i 1).val)) 32#64
    = BitVec.ofNat 64 ((i 0).val * 1024 + (i 1).val) >>> 32 from rfl]
  simp only [BitVec.toNat_setWidth, BitVec.toNat_ushiftRight, BitVec.toNat_ofNat, Nat.shiftRight_eq_div_pow]
  omega

theorem head_n1 (i : S16384x1024.Idx) : val n1 (after headOps V) i = BitVec.ofNat 32 ((i 0).val * 1024 + (i 1).val) := by
  rw [val]
  after_reads_simp
  simp only [TRef.ofBuf_toBuf]
  pointwise
  rw [number]
  have h0 : (i 0).val < 16384 := (i 0).2
  have h1 : (i 1).val < 1024 := (i 1).2
  apply BitVec.eq_of_toNat_eq
  simp only [BitVec.toNat_setWidth, BitVec.toNat_ofNat]
  omega

theorem head_v1 : val main_call0_call0.v1 (after headOps V) = fun _ => FloatOps.ofBits .f32 0x00800000#32 := by
  rw [val]
  after_reads_simp
  simp only [TRef.ofBuf_toBuf]
  rfl

theorem head_v2 : val main_call0_call0.v2 (after headOps V) = fun _ => FloatOps.ofBits .f32 0x3F800000#32 := by
  rw [val]
  after_reads_simp
  simp only [TRef.ofBuf_toBuf]
  rfl

theorem head_arg0 : after headOps V (Proc.devRef .tc main_arg0) = V (Proc.devRef .tc main_arg0) := by
  after_reads_simp

end Cert.Proof.RefHead

end
-- ==== Proof.RefPick.lean ====
/-
  The reference's arg-max at one row: the column number of the row's first greatest score.
-/
module

public import proofs.«01_k».proof.Proof.Gen.ReferenceIdeal
public import proofs.«01_k».proof.Proof.Sample
public import Idealize.ShloMosaic.Lib.Pointwise

@[expose] public section

noncomputable section

namespace Cert.Proof.RefPick

open Cert.ReferenceIdeal Idealize.ShloMosaic Cert.Proof.ArgMax Cert.Proof.Sample

/-- The reference's reducer keeps the better of two pairs. -/
theorem better : Better (reducer_argmax_f32_i32 (F := Ideal)) := by
  intro v x m n hm hn
  have c : (BitVec.ofNat 32 m).slt (BitVec.ofNat 32 n) = decide (m < n) := slt_ofNat hm hn
  simp only [reducer_argmax_f32_i32, Ideal.cmpf_def, Ideal.cmp, IntOp.cmpi, IntOp.ori, IntOp.andi, Scalar.select, c]
  rcases lt_trichotomy x v with h | h | h
  · simp [h, h.ne']
  · subst h
    by_cases hmn : m < n <;> simp [hmn]
  · simp [h.not_gt, h.ne]

variable (s : FVec Ideal S16384x1024 .f32) (j : S16384.Idx)

/-- The places of row `j`, in the order the reduction walks them. -/
def row : List S16384x1024.Idx :=
  ((List.finRange S16384x1024.numel).filter fun n =>
    Facts₀.reducesTo_S16384x1024_S16384_d1.drop (S16384x1024.rowMajor.symm n) = j).map S16384x1024.rowMajor.symm

/-- They are the row's elements, one a column. -/
theorem mem_row (i : S16384x1024.Idx) : i ∈ row j ↔ ∃ c : Fin 1024, ix2 (j 0) c = i := by
  rw [show (∃ c : Fin 1024, ix2 (j 0) c = i) ↔ _ from (Facts₀.reducesTo_S16384x1024_S16384_d1.fiber_r2_a1 j i).symm]
  simp only [row, List.mem_map, List.mem_filter, List.mem_finRange, true_and, decide_eq_true_eq]
  constructor
  · rintro ⟨n, h, rfl⟩; exact h
  · intro h; exact ⟨S16384x1024.rowMajor i, by rw [Equiv.symm_apply_apply]; exact h, Equiv.symm_apply_apply _ _⟩

/-- THE ARG-MAX: over scores `s`, with the column numbers beside them, from (least, 0). -/
theorem pick_at : (Host.argReduce reducer_argmax_f32_i32 s (iotaInDim S16384x1024 32 1)
      (constant S_ .f32 0xFF800000#32) (constantI S_ 32 0#32) Facts₀.reducesTo_S16384x1024_S16384_d1 Facts₀.h_S_ j).2
    = BitVec.ofNat 32 (pick fun c => s (ix2 (j 0) c)) := by
  rw [Ideal.argReduce_eq_reduce2, Host.reduce2_eq_foldl_fiber]
  have lowest : Ideal.ofBits .f32 0xFF800000#32 = ⊥ := by simp [Ideal.ofBits, Ideal.ieee]
  have fiber : Host.argReduceFiber s (iotaInDim S16384x1024 32 1) Facts₀.reducesTo_S16384x1024_S16384_d1 j
      = (row j).map fun i => (s i, BitVec.ofNat 32 (i 1).val) := by
    rw [row, List.map_map]; rfl
  obtain ⟨m, h, e⟩ := walk_first better (s := s) (k := fun i => (i 1).val) (fun i => (i 1).2) (row j)
    ⟨ix2 (j 0) (0 : Fin 1024), (mem_row j _).mpr ⟨_, rfl⟩, rfl⟩
  have h' : First (· ∈ Finset.univ) (fun c : Fin 1024 => s (ix2 (j 0) c)) Fin.val m := by
    refine h.transfer (fun i hi => ?_) fun c _ => ⟨ix2 (j 0) c, (mem_row j _).mpr ⟨c, rfl⟩, rfl, rfl⟩
    obtain ⟨c, rfl⟩ := (mem_row j i).mp hi
    exact ⟨c, Finset.mem_univ _, rfl, rfl⟩
  rw [fiber, pick_eq h', ← e, ← lowest]
  rfl

end Cert.Proof.RefPick

end
-- ==== Proof.RefValue.lean ====
/-
  What the reference leaves in its result: the two columns, the first column of every row's greatest score and the value
  it stands for, side by side.
-/
module

public import proofs.«01_k».proof.Proof.RefHead
public import proofs.«01_k».proof.Proof.RefPick

@[expose] public section

noncomputable section

namespace Cert.Proof.RefValue

open Cert.ReferenceIdeal Cert.ReferenceIdeal.Gen Idealize.ShloMosaic Idealize.ShloMosaic.TcCoe
  Idealize.SL.Sem Idealize.ShloMosaic.StableHlo Cert.Proof.RefLine Cert.Proof.RefRead Cert.Proof.RefWord
  Cert.Proof.RefHead Cert.Proof.RefPick Cert.Proof.Threefry Cert.Proof.Sample

variable (V : Valuation τ sig (Elt Ideal))

/-- The operations from the random words to the noise. -/
abbrev noiseOps : List (HloOp τ sig (Elt Ideal)) := uniformOps main_call0_call0 ++ gumbelOps main_call0

/-- The operations up to the random words. -/
abbrev bitsOps : List (HloOp τ sig (Elt Ideal)) := headOps ++ threefryOps k0 k1 n0 n1 φ

/-- The two random words of element `i`, xored. -/
theorem bits_word (i : S16384x1024.Idx) :
    val φ.v171 (after bitsOps V) i ^^^ val φ.v175 (after bitsOps V) i = word ((i 0).val * 1024 + (i 1).val) := by
  have h := (threefry_at (V := after headOps V) (i := i) (head_k0 V) (head_k1 V)).state
  rw [head_n0, head_n1] at h
  rw [bitsOps, StableHlo.after_append, show val φ.v171 _ i = _ from congrArg Prod.fst h,
    show val φ.v175 _ i = _ from congrArg Prod.snd h]
  rfl

/-- What the random words' operations leave alone. -/
theorem bits_keep (q : Ref sig .tc) (h : q = main_arg0 ∨ q = main_call0_call0_v1 ∨ q = main_call0_call0_v2) :
    after bitsOps V (Proc.devRef .tc q) = after headOps V (Proc.devRef .tc q) := by
  rw [bitsOps, StableHlo.after_append, threefry_keep (head_k0 V) (head_k1 V) q h]

/-- The noise, the scores, the logits and the picked columns, as arrays. -/
abbrev v7 : Floats := main_call0.v4
abbrev v8 : Floats := .of main_v8
abbrev logit : Floats := .of main_arg0
abbrev v9 : TRef sig ⟨S16384, .i32⟩ := .of main_v9

/-- The noise, from the two words and the two ends of the range. -/
theorem noise_v7 (hl : val main_call0_call0.v1 V = fun _ => Ideal.ofBits .f32 0x00800000#32)
    (hh : val main_call0_call0.v2 V = fun _ => Ideal.ofBits .f32 0x3F800000#32) (i : S16384x1024.Idx) :
    val v7 (after noiseOps V) i = gumbel (unit (val φ.v171 V i ^^^ val φ.v175 V i)) := by
  rw [val] at hl hh ⊢
  after_reads_simp
  simp only [TRef.ofBuf_toBuf]
  rw [hl, hh, val, val]
  pointwise [gumbel, unit, width, tiny, mantissa]
  rw [show ∀ w : BitVec 32, IntOp.shrui ArithUnit.host w 9#32 = w >>> 9 from fun w => shrui_lit _ w (by decide)]
  rfl

/-- The scores, from the noise and the logits. -/
theorem score_v8 (i : S16384x1024.Idx) : val v8 (after scoreOps V) i = (val logit V i + val v7 V i : EReal) :=
  (show val v8 (after scoreOps V) i = (val v7 V i + val logit V i : EReal) by
    rw [val]
    after_reads_simp
    rfl).trans (add_comm _ _)

/-- The noise leaves the logits alone. -/
theorem noise_keep : val logit (after noiseOps V) = val logit V := by
  rw [val, val]
  after_reads_simp

/-- The picked columns, from the scores. -/
theorem pick_v9 : val v9 (after (argmaxOps v8 main_call1) V)
    = fun j => BitVec.ofNat 32 (pick fun c => val v8 V (ix2 (j 0) c)) := by
  rw [val]
  after_reads_simp
  simp only [TRef.ofBuf_toBuf]
  funext j
  exact pick_at (val v8 V) j

/-- The result, from the picked columns. -/
theorem out_v18 (s : S16384.Idx → Fin 1024 → EReal) (h : val v9 V = fun j => BitVec.ofNat 32 (pick (s j))) :
    after outOps V (Proc.devRef .tc main_v18)
    = concatenate S16384x2 1
        [⟨S16384x1, fun i : S16384x1.Idx => column (s (ix1 (i 0)))⟩,
         ⟨S16384x1, fun i : S16384x1.Idx => level (s (ix1 (i 0)))⟩]
        Facts₀.concatenates_S16384x1_S16384x1_S16384x2_d1 := by
  rw [outOps]
  after_results
  have h9 : V (Proc.devRef .tc main_v9) = _ := h
  rw [h9]
  have e0 : broadcastInDim S16384x1 ![0] Facts₀.bcast_S16384_S16384x1_0
        (sitofp (F := Ideal) .f32 fun j : S16384.Idx => BitVec.ofNat 32 (pick (s j)))
      = fun i : S16384x1.Idx => column (s (ix1 (i 0))) := by
    funext i
    pointwise [column]
    rfl
  have e1 : addf (F := Ideal) (broadcastInDim S16384x1 ![] Facts₀.bcast_S_S16384x1 (constant S_ .f32 0xC04A62C2#32))
        (mulf (broadcastInDim S16384x1 ![] Facts₀.bcast_S_S16384x1 (constant S_ .f32 0x3BCA9567#32))
          (subf (fun i : S16384x1.Idx => column (s (ix1 (i 0))))
            (broadcastInDim S16384x1 ![] Facts₀.bcast_S_S16384x1 (constant S_ .f32 0x00000000#32))))
      = fun i : S16384x1.Idx => level (s (ix1 (i 0))) := by
    funext i
    pointwise [level]
  rw [e0, e1]

/-- The list of operations, stage by stage. -/
theorem stages : after ops V
    = after outOps (after (argmaxOps v8 main_call1) (after scoreOps (after noiseOps (after bitsOps V)))) := by
  simp only [ops, bitsOps, headOps, countOps, noiseOps, StableHlo.after_append]

/-- The scores of the whole program. -/
theorem scores (i : S16384x1024.Idx) : val v8 (after scoreOps (after noiseOps (after bitsOps V))) i
    = (val logit V i + gumbel (unit (word ((i 0).val * 1024 + (i 1).val))) : EReal) := by
  have e : val logit (after bitsOps V) = val logit V :=
    congrArg logit.ofBuf ((bits_keep V _ (.inl rfl)).trans (head_arg0 V))
  rw [score_v8, noise_keep, e, noise_v7, bits_word]
  · rw [val, bits_keep V _ (.inr (.inl rfl))]; exact head_v1 V
  · rw [val, bits_keep V _ (.inr (.inr rfl))]; exact head_v2 V

/-- THE RESULT: the first column of every row's greatest score, and the value it stands for. -/
theorem result : after ops V (Proc.devRef .tc main_v18)
    = concatenate S16384x2 1
        [⟨S16384x1, fun i : S16384x1.Idx => column (score (logits (V (Proc.devRef .tc main_arg0))) (i 0).val)⟩,
         ⟨S16384x1, fun i : S16384x1.Idx => level (score (logits (V (Proc.devRef .tc main_arg0))) (i 0).val)⟩]
        Facts₀.concatenates_S16384x1_S16384x1_S16384x2_d1 := by
  rw [stages]
  refine out_v18 _ (fun j => score (logits (V (Proc.devRef .tc main_arg0))) (j 0).val) ?_
  rw [pick_v9]
  funext j
  congr 2
  funext c
  rw [scores, score]
  congr 1
  exact (logits_ix2 (V (Proc.devRef .tc main_arg0)) (j 0) c).symm

/-- The argument is left alone. -/
theorem argument : after ops V (Proc.devRef .tc main_arg0) = V (Proc.devRef .tc main_arg0) := by
  rw [stages]
  have h : ∀ W : Valuation τ sig (Elt Ideal), after outOps (after (argmaxOps v8 main_call1) (after scoreOps (after noiseOps W)))
      (Proc.devRef .tc main_arg0) = W (Proc.devRef .tc main_arg0) := by
    intro W
    simp only [← StableHlo.after_append]
    after_reads_simp
  rw [h, bits_keep V _ (.inl rfl), head_arg0]

end Cert.Proof.RefValue

end
-- ==== Proof.lean ====
/-
  The proof of `Cert.Claim`. The kernel's frames are the generated ones; the reference's frame is its run read at the
  argument; the two results are equal because each is the same two columns, `KernelValue` says so of the kernel and
  `RefValue` of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.KernelValue
public import proofs.«01_k».proof.Proof.RefRun
public import proofs.«01_k».proof.Proof.RefValue
public import Idealize.ShloMosaic.Adequacy
public import Idealize.ShloMosaic.Init

@[expose] public section

noncomputable section

namespace Cert.Proof

open Idealize.ShloMosaic Idealize.SL.Sem

/-- The kernel, on hardware floats: it runs, leaves its argument alone and every counter at zero. -/
theorem kernel_frame : quiescent_Kernel (hKernel := Cert.Kernel.Gen.facts) := fun m g _ => Cert.Kernel.Gen.frame m g

/-- The same of the kernel on extended reals. -/
theorem kernelIdeal_frame : quiescent_KernelIdeal (hKernelIdeal := Cert.KernelIdeal.Gen.facts) :=
  fun m g _ => Cert.KernelIdeal.Gen.frame m g

/-- The same of the reference. -/
theorem reference_frame : quiescent_ReferenceIdeal (hReferenceIdeal := Cert.ReferenceIdeal.Gen.facts) := fun m g _ =>
  (θ_run _ _ _).mono (fun _ h => ⟨fun c => (h c Cert.ReferenceIdeal.main_arg0).trans (RefValue.argument _),
    RefRun.sem_zero _⟩) (RefRun.run m g)

/-- THE VALUE: on extended reals the kernel and the reference, from equal logits, end with equal results. -/
theorem value : algebraic_KernelIdeal_ReferenceIdeal (hKernelIdeal := Cert.KernelIdeal.Gen.facts)
    (hReferenceIdeal := Cert.ReferenceIdeal.Gen.facts) := fun m g m' g' _ same =>
  ⟨fun c => concatenate Cert.KernelIdeal.S16384x2 1
      [⟨Cert.KernelIdeal.S16384x1, Cert.KernelIdeal.Value.reg_main_v0_0 m c⟩,
       ⟨Cert.KernelIdeal.S16384x1, Cert.KernelIdeal.Value.reg_main_v0_1 m c⟩]
      Cert.KernelIdeal.Facts₀.concatenates_S16384x1_S16384x1_S16384x2_d1,
    Cert.KernelIdeal.Value.run m g,
    (θ_run _ _ _).mono (fun r h c => by
      refine ⟨(h c Cert.ReferenceIdeal.main_v18).trans ((RefValue.result _).trans ?_),
        (h c Cert.ReferenceIdeal.main_arg0).trans (RefValue.argument _)⟩
      have e : StableHlo.launchContents m' c (Proc.devRef .tc Cert.ReferenceIdeal.main_arg0)
          = m ((c.tc : Thread Cert.KernelIdeal.nD Cert.KernelIdeal.τ).loc Cert.KernelIdeal.main_arg0) := same c
      rw [e]
      beta_reduce
      rw [KernelValue.first, KernelValue.second]
      rfl) (RefRun.run m' g')⟩

/-- All that is claimed. -/
theorem claim : Cert.Claim :=
  ⟨Cert.Kernel.Gen.facts, Cert.KernelIdeal.Gen.facts, Cert.ReferenceIdeal.Gen.facts,
    kernel_frame, kernelIdeal_frame, reference_frame, trivial, value⟩

end Cert.Proof

end
